-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S64x1024x32 : Shape := ⟨3, ![64, 1024, 32]⟩
abbrev S8192x32 : Shape := ⟨2, ![8192, 32]⟩
abbrev S_ : Shape := ⟨0, ![]⟩

class Facts : Prop where
  bcast_S_S64x1024x32 : S_.BroadcastsInDim S64x1024x32 (![] : Fin 0 → Fin S64x1024x32.rank)
  reducesTo_S64x1024x32_S_d0_1_2 : S64x1024x32.ReducesTo [0, 1, 2] S_
  h_S_ : 0 < S_.numel
  bcast_S_S8192x32 : S_.BroadcastsInDim S8192x32 (![] : Fin 0 → Fin S8192x32.rank)
  reducesTo_S8192x32_S_d0_1 : S8192x32.ReducesTo [0, 1] S_

variable [Facts]

def fn {F : FTy → Type} [FloatOps F] (main_arg0 : FVec F S64x1024x32 .f32) (main_arg1 : FVec F S8192x32 .f32) : IVec S_ 1 :=
  let main_v0 : FVec F S64x1024x32 .f32 := Host.absf main_arg0
  let main_cst : FVec F S_ .f32 := constant S_ .f32 0x7F800000#32
  let main_v1 : FVec F S64x1024x32 .f32 := broadcastInDim S64x1024x32 ![] bcast_S_S64x1024x32 main_cst
  let main_v2 : IVec S64x1024x32 1 := cmpf .olt main_v0 main_v1
  let main_c : IVec S_ 1 := constantI S_ 1 1#1
  let main_v3 : IVec S_ 1 := (fun x v => Host.reduce IntOp.andi x v reducesTo_S64x1024x32_S_d0_1_2 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  main_v8
-- ==== Kernel.lean ====
abbrev S64x1024x32 : Shape := ⟨3, ![64, 1024, 32]⟩
abbrev S8192x32 : Shape := ⟨2, ![8192, 32]⟩
abbrev S65536x32 : Shape := ⟨2, ![65536, 32]⟩
abbrev S_ : Shape := ⟨0, ![]⟩
abbrev S8192 : Shape := ⟨1, ![8192]⟩
abbrev S32x8192 : Shape := ⟨2, ![32, 8192]⟩
abbrev S1x8192 : Shape := ⟨2, ![1, 8192]⟩
abbrev S32x1x2048 : Shape := ⟨3, ![32, 1, 2048]⟩
abbrev S2048x32 : Shape := ⟨2, ![2048, 32]⟩
abbrev S1x1x2048 : Shape := ⟨3, ![1, 1, 2048]⟩
abbrev S2048x8192 : Shape := ⟨2, ![2048, 8192]⟩
abbrev S2048 : Shape := ⟨1, ![2048]⟩
abbrev S2048x1 : Shape := ⟨2, ![2048, 1]⟩
abbrev S2048x4096 : Shape := ⟨2, ![2048, 4096]⟩
abbrev S1x4096 : Shape := ⟨2, ![1, 4096]⟩
abbrev S65536 : Shape := ⟨1, ![65536]⟩
abbrev S8200x128 : Shape := ⟨2, ![8200, 128]⟩
abbrev S512x128 : Shape := ⟨2, ![512, 128]⟩
abbrev S32x16 : Shape := ⟨2, ![32, 16]⟩
abbrev S16x128 : Shape := ⟨2, ![16, 128]⟩
abbrev S256x128 : Shape := ⟨2, ![256, 128]⟩
abbrev S256x32 : Shape := ⟨2, ![256, 32]⟩
abbrev S16 : Shape := ⟨1, ![16]⟩
abbrev S128x128 : Shape := ⟨2, ![128, 128]⟩
abbrev S1x128 : Shape := ⟨2, ![1, 128]⟩
abbrev S128 : Shape := ⟨1, ![128]⟩
abbrev S1x16 : Shape := ⟨2, ![1, 16]⟩
abbrev S64x1024 : Shape := ⟨2, ![64, 1024]⟩

abbrev nBuf : Table → Nat
  | .hbm => 28
  | .local .tc .vmem => 7
  | .local .scVector .vmem => 4
  | _ => 0

abbrev bufTy : (tb : Table) → Fin (nBuf tb) → BufTy
  | .hbm, ⟨0, _⟩ => ⟨S64x1024x32, .f32⟩
  | .hbm, ⟨1, _⟩ => ⟨S8192x32, .f32⟩
  | .hbm, ⟨2, _⟩ => ⟨S65536x32, .f32⟩
  | .hbm, ⟨3, _⟩ => ⟨S8192x32, .f32⟩
  | .hbm, ⟨4, _⟩ => ⟨S_, .f32⟩
  | .hbm, ⟨5, _⟩ => ⟨S8192, .f32⟩
  | .hbm, ⟨6, _⟩ => ⟨S32x8192, .f32⟩
  | .hbm, ⟨7, _⟩ => ⟨S32x8192, .bf16⟩
  | .hbm, ⟨8, _⟩ => ⟨S1x8192, .f32⟩
  | .hbm, ⟨9, _⟩ => ⟨S8192, .f32⟩
  | .hbm, ⟨10, _⟩ => ⟨S1x8192, .f32⟩
  | .hbm, ⟨11, _⟩ => ⟨S32x1x2048, .i32⟩
  | .hbm, ⟨12, _⟩ => ⟨S65536, .i32⟩
  | .hbm, ⟨13, _⟩ => ⟨S_, .i32⟩
  | .hbm, ⟨14, _⟩ => ⟨S_, .f32⟩
  | .hbm, ⟨15, _⟩ => ⟨S8200x128, .f32⟩
  | .hbm, ⟨16, _⟩ => ⟨S512x128, .i32⟩
  | .hbm, ⟨17, _⟩ => ⟨S65536x32, .f32⟩
  | .hbm, ⟨18, _⟩ => ⟨S32x16, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64x1024x32, .f32⟩
  | .hbm, ⟨27, _⟩ => ⟨S64x1024, .i32⟩
  | .local .tc .vmem, ⟨0, _⟩ => ⟨S2048x32, .f32⟩
  | .local .tc .vmem, ⟨1, _⟩ => ⟨S2048x32, .f32⟩
  | .local .tc .vmem, ⟨2, _⟩ => ⟨S32x8192, .bf16⟩
  | .local .tc .vmem, ⟨3, _⟩ => ⟨S1x8192, .f32⟩
  | .local .tc .vmem, ⟨4, _⟩ => ⟨S1x8192, .f32⟩
  | .local .tc .vmem, ⟨5, _⟩ => ⟨S1x1x2048, .i32⟩
  | .local .tc .vmem, ⟨6, _⟩ => ⟨S1x1x2048, .i32⟩
  | .local .scVector .vmem, ⟨0, _⟩ => ⟨S16x128, .i32⟩
  | .local .scVector .vmem, ⟨1, _⟩ => ⟨S256x128, .f32⟩
  | .local .scVector .vmem, ⟨2, _⟩ => ⟨S256x32, .f32⟩
  | .local .scVector .vmem, ⟨3, _⟩ => ⟨S16, .f32⟩
  | _, _ => ⟨S64x1024x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v10_scv : Ref sig .scVector := ⟨.hbm, 15, rfl⟩
abbrev main_v0_scv : Ref sig .scVector := ⟨.hbm, 2, rfl⟩
abbrev main_v11_scv : Ref sig .scVector := ⟨.hbm, 16, rfl⟩
abbrev main_v12_0_scv : Ref sig .scVector := ⟨.hbm, 17, rfl⟩
abbrev main_v12_1_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_216_r0 : BitVec 32 := 0#32
  ![v3.toNat, 0]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v4 : BitVec 32 := Scalar.muli v1 c2048_i32
  let v5 : BitVec 32 := Scalar.addi v4 c0_i32
  let c0_i32_216_r1 : BitVec 32 := 0#32
  ![v5.toNat, 0]
@[reducible] def k1_t1_loop : Scf.Loop 32 :=
  let c0_i32_22 : BitVec 32 := 0#32
  let c256_i32 : BitVec 32 := 256#32
  let v22 : BitVec 32 := Scalar.addi c0_i32_22 c256_i32
  let c1_i32_23 : BitVec 32 := 1#32
  ⟨c0_i32_22, v22, c1_i32_23⟩
def k1_off3 (k1_t1 : Fin k1_t1_loop.trips) : Fin 2 → Nat :=
  let c0_i32_22 : BitVec 32 := 0#32
  let c1_i32_23 : BitVec 32 := 1#32
  let arg12 : BitVec 32 := Scf.iv c0_i32_22 c1_i32_23 k1_t1
  let v167 : Index := Scalar.indexCast arg12
  let c0_216 : Index := 0#32
  ![v167.toNat, 0]
def k1_off4 (k1_t1 : Fin k1_t1_loop.trips) : Fin 2 → Nat :=
  let c0_i32_22 : BitVec 32 := 0#32
  let c1_i32_23 : BitVec 32 := 1#32
  let arg12 : BitVec 32 := Scf.iv c0_i32_22 c1_i32_23 k1_t1
  let v170 : Index := Scalar.indexCast arg12
  let c0_217 : Index := 0#32
  ![v170.toNat, 0]
def k1_off5 (k1_t1 : Fin k1_t1_loop.trips) : Fin 2 → Nat :=
  let c0_i32_22 : BitVec 32 := 0#32
  let c1_i32_23 : BitVec 32 := 1#32
  let arg12 : BitVec 32 := Scf.iv c0_i32_22 c1_i32_23 k1_t1
  let v181 : Index := Scalar.indexCast arg12
  let c16 : Index := 16#32
  ![v181.toNat, 16]
def k1_off6 (k1_t1 : Fin k1_t1_loop.trips) : Fin 2 → Nat :=
  let c0_i32_22 : BitVec 32 := 0#32
  let c1_i32_23 : BitVec 32 := 1#32
  let arg12 : BitVec 32 := Scf.iv c0_i32_22 c1_i32_23 k1_t1
  let v184 : Index := Scalar.indexCast arg12
  let c16_219 : Index := 16#32
  ![v184.toNat, 16]
@[reducible] def k1_t2_loop : Scf.Loop 32 :=
  let c0_i32_50 : BitVec 32 := 0#32
  let c256_i32_51 : BitVec 32 := 256#32
  let v42 : BitVec 32 := Scalar.addi c0_i32_50 c256_i32_51
  let c1_i32_52 : BitVec 32 := 1#32
  ⟨c0_i32_50, v42, c1_i32_52⟩
def k1_off7 (k1_t2 : Fin k1_t2_loop.trips) : Fin 2 → Nat :=
  let c0_i32_50 : BitVec 32 := 0#32
  let c1_i32_52 : BitVec 32 := 1#32
  let arg12 : BitVec 32 := Scf.iv c0_i32_50 c1_i32_52 k1_t2
  let v167 : Index := Scalar.indexCast arg12
  let c0_216 : Index := 0#32
  ![v167.toNat, 0]
def k1_off8 (k1_t2 : Fin k1_t2_loop.trips) : Fin 2 → Nat :=
  let c0_i32_50 : BitVec 32 := 0#32
  let c1_i32_52 : BitVec 32 := 1#32
  let arg12 : BitVec 32 := Scf.iv c0_i32_50 c1_i32_52 k1_t2
  let v170 : Index := Scalar.indexCast arg12
  let c0_217 : Index := 0#32
  ![v170.toNat, 0]
def k1_off9 (k1_t2 : Fin k1_t2_loop.trips) : Fin 2 → Nat :=
  let c0_i32_50 : BitVec 32 := 0#32
  let c1_i32_52 : BitVec 32 := 1#32
  let arg12 : BitVec 32 := Scf.iv c0_i32_50 c1_i32_52 k1_t2
  let v181 : Index := Scalar.indexCast arg12
  let c16 : Index := 16#32
  ![v181.toNat, 16]
def k1_off10 (k1_t2 : Fin k1_t2_loop.trips) : Fin 2 → Nat :=
  let c0_i32_50 : BitVec 32 := 0#32
  let c1_i32_52 : BitVec 32 := 1#32
  let arg12 : BitVec 32 := Scf.iv c0_i32_50 c1_i32_52 k1_t2
  let v184 : Index := Scalar.indexCast arg12
  let c16_219 : Index := 16#32
  ![v184.toNat, 16]
@[reducible] def k1_t3_loop : Scf.Loop 32 :=
  let c0_i32_77 : BitVec 32 := 0#32
  let c256_i32_78 : BitVec 32 := 256#32
  let v62 : BitVec 32 := Scalar.addi c0_i32_77 c256_i32_78
  let c1_i32_79 : BitVec 32 := 1#32
  ⟨c0_i32_77, v62, c1_i32_79⟩
def k1_off11 (k1_t3 : Fin k1_t3_loop.trips) : Fin 2 → Nat :=
  let c0_i32_77 : BitVec 32 := 0#32
  let c1_i32_79 : BitVec 32 := 1#32
  let arg12 : BitVec 32 := Scf.iv c0_i32_77 c1_i32_79 k1_t3
  let v167 : Index := Scalar.indexCast arg12
  let c0_216 : Index := 0#32
  ![v167.toNat, 0]
def k1_off12 (k1_t3 : Fin k1_t3_loop.trips) : Fin 2 → Nat :=
  let c0_i32_77 : BitVec 32 := 0#32
  let c1_i32_79 : BitVec 32 := 1#32
  let arg12 : BitVec 32 := Scf.iv c0_i32_77 c1_i32_79 k1_t3
  let v170 : Index := Scalar.indexCast arg12
  let c0_217 : Index := 0#32
  ![v170.toNat, 0]
def k1_off13 (k1_t3 : Fin k1_t3_loop.trips) : Fin 2 → Nat :=
  let c0_i32_77 : BitVec 32 := 0#32
  let c1_i32_79 : BitVec 32 := 1#32
  let arg12 : BitVec 32 := Scf.iv c0_i32_77 c1_i32_79 k1_t3
  let v181 : Index := Scalar.indexCast arg12
  let c16 : Index := 16#32
  ![v181.toNat, 16]
def k1_off14 (k1_t3 : Fin k1_t3_loop.trips) : Fin 2 → Nat :=
  let c0_i32_77 : BitVec 32 := 0#32
  let c1_i32_79 : BitVec 32 := 1#32
  let arg12 : BitVec 32 := Scf.iv c0_i32_77 c1_i32_79 k1_t3
  let v184 : Index := Scalar.indexCast arg12
  let c16_219 : Index := 16#32
  ![v184.toNat, 16]
@[reducible] def k1_t4_loop : Scf.Loop 32 :=
  let c0_i32_104 : BitVec 32 := 0#32
  let c256_i32_105 : BitVec 32 := 256#32
  let v82 : BitVec 32 := Scalar.addi c0_i32_104 c256_i32_105
  let c1_i32_106 : BitVec 32 := 1#32
  ⟨c0_i32_104, v82, c1_i32_106⟩
def k1_off15 (k1_t4 : Fin k1_t4_loop.trips) : Fin 2 → Nat :=
  let c0_i32_104 : BitVec 32 := 0#32
  let c1_i32_106 : BitVec 32 := 1#32
  let arg12 : BitVec 32 := Scf.iv c0_i32_104 c1_i32_106 k1_t4
  let v167 : Index := Scalar.indexCast arg12
  let c0_216 : Index := 0#32
  ![v167.toNat, 0]
def k1_off16 (k1_t4 : Fin k1_t4_loop.trips) : Fin 2 → Nat :=
  let c0_i32_104 : BitVec 32 := 0#32
  let c1_i32_106 : BitVec 32 := 1#32
  let arg12 : BitVec 32 := Scf.iv c0_i32_104 c1_i32_106 k1_t4
  let v170 : Index := Scalar.indexCast arg12
  let c0_217 : Index := 0#32
  ![v170.toNat, 0]
def k1_off17 (k1_t4 : Fin k1_t4_loop.trips) : Fin 2 → Nat :=
  let c0_i32_104 : BitVec 32 := 0#32
  let c1_i32_106 : BitVec 32 := 1#32
  let arg12 : BitVec 32 := Scf.iv c0_i32_104 c1_i32_106 k1_t4
  let v181 : Index := Scalar.indexCast arg12
  let c16 : Index := 16#32
  ![v181.toNat, 16]
def k1_off18 (k1_t4 : Fin k1_t4_loop.trips) : Fin 2 → Nat :=
  let c0_i32_104 : BitVec 32 := 0#32
  let c1_i32_106 : BitVec 32 := 1#32
  let arg12 : BitVec 32 := Scf.iv c0_i32_104 c1_i32_106 k1_t4
  let v184 : Index := Scalar.indexCast arg12
  let c16_219 : Index := 16#32
  ![v184.toNat, 16]
@[reducible] def k1_t5_loop : Scf.Loop 32 :=
  let c0_i32_131 : BitVec 32 := 0#32
  let c256_i32_132 : BitVec 32 := 256#32
  let v102 : BitVec 32 := Scalar.addi c0_i32_131 c256_i32_132
  let c1_i32_133 : BitVec 32 := 1#32
  ⟨c0_i32_131, v102, c1_i32_133⟩
def k1_off19 (k1_t5 : Fin k1_t5_loop.trips) : Fin 2 → Nat :=
  let c0_i32_131 : BitVec 32 := 0#32
  let c1_i32_133 : BitVec 32 := 1#32
  let arg12 : BitVec 32 := Scf.iv c0_i32_131 c1_i32_133 k1_t5
  let v167 : Index := Scalar.indexCast arg12
  let c0_216 : Index := 0#32
  ![v167.toNat, 0]
def k1_off20 (k1_t5 : Fin k1_t5_loop.trips) : Fin 2 → Nat :=
  let c0_i32_131 : BitVec 32 := 0#32
  let c1_i32_133 : BitVec 32 := 1#32
  let arg12 : BitVec 32 := Scf.iv c0_i32_131 c1_i32_133 k1_t5
  let v170 : Index := Scalar.indexCast arg12
  let c0_217 : Index := 0#32
  ![v170.toNat, 0]
def k1_off21 (k1_t5 : Fin k1_t5_loop.trips) : Fin 2 → Nat :=
  let c0_i32_131 : BitVec 32 := 0#32
  let c1_i32_133 : BitVec 32 := 1#32
  let arg12 : BitVec 32 := Scf.iv c0_i32_131 c1_i32_133 k1_t5
  let v181 : Index := Scalar.indexCast arg12
  let c16 : Index := 16#32
  ![v181.toNat, 16]
def k1_off22 (k1_t5 : Fin k1_t5_loop.trips) : Fin 2 → Nat :=
  let c0_i32_131 : BitVec 32 := 0#32
  let c1_i32_133 : BitVec 32 := 1#32
  let arg12 : BitVec 32 := Scf.iv c0_i32_131 c1_i32_133 k1_t5
  let v184 : Index := Scalar.indexCast arg12
  let c16_219 : Index := 16#32
  ![v184.toNat, 16]
@[reducible] def k1_t6_loop : Scf.Loop 32 :=
  let c0_i32_158 : BitVec 32 := 0#32
  let c256_i32_159 : BitVec 32 := 256#32
  let v122 : BitVec 32 := Scalar.addi c0_i32_158 c256_i32_159
  let c1_i32_160 : BitVec 32 := 1#32
  ⟨c0_i32_158, v122, c1_i32_160⟩
def k1_off23 (k1_t6 : Fin k1_t6_loop.trips) : Fin 2 → Nat :=
  let c0_i32_158 : BitVec 32 := 0#32
  let c1_i32_160 : BitVec 32 := 1#32
  let arg12 : BitVec 32 := Scf.iv c0_i32_158 c1_i32_160 k1_t6
  let v167 : Index := Scalar.indexCast arg12
  let c0_216 : Index := 0#32
  ![v167.toNat, 0]
def k1_off24 (k1_t6 : Fin k1_t6_loop.trips) : Fin 2 → Nat :=
  let c0_i32_158 : BitVec 32 := 0#32
  let c1_i32_160 : BitVec 32 := 1#32
  let arg12 : BitVec 32 := Scf.iv c0_i32_158 c1_i32_160 k1_t6
  let v170 : Index := Scalar.indexCast arg12
  let c0_217 : Index := 0#32
  ![v170.toNat, 0]
def k1_off25 (k1_t6 : Fin k1_t6_loop.trips) : Fin 2 → Nat :=
  let c0_i32_158 : BitVec 32 := 0#32
  let c1_i32_160 : BitVec 32 := 1#32
  let arg12 : BitVec 32 := Scf.iv c0_i32_158 c1_i32_160 k1_t6
  let v181 : Index := Scalar.indexCast arg12
  let c16 : Index := 16#32
  ![v181.toNat, 16]
def k1_off26 (k1_t6 : Fin k1_t6_loop.trips) : Fin 2 → Nat :=
  let c0_i32_158 : BitVec 32 := 0#32
  let c1_i32_160 : BitVec 32 := 1#32
  let arg12 : BitVec 32 := Scf.iv c0_i32_158 c1_i32_160 k1_t6
  let v184 : Index := Scalar.indexCast arg12
  let c16_219 : Index := 16#32
  ![v184.toNat, 16]
@[reducible] def k1_t7_loop : Scf.Loop 32 :=
  let c0_i32_185 : BitVec 32 := 0#32
  let c256_i32_186 : BitVec 32 := 256#32
  let v142 : BitVec 32 := Scalar.addi c0_i32_185 c256_i32_186
  let c1_i32_187 : BitVec 32 := 1#32
  ⟨c0_i32_185, v142, c1_i32_187⟩
def k1_off27 (k1_t7 : Fin k1_t7_loop.trips) : Fin 2 → Nat :=
  let c0_i32_185 : BitVec 32 := 0#32
  let c1_i32_187 : BitVec 32 := 1#32
  let arg12 : BitVec 32 := Scf.iv c0_i32_185 c1_i32_187 k1_t7
  let v167 : Index := Scalar.indexCast arg12
  let c0_216 : Index := 0#32
  ![v167.toNat, 0]
def k1_off28 (k1_t7 : Fin k1_t7_loop.trips) : Fin 2 → Nat :=
  let c0_i32_185 : BitVec 32 := 0#32
  let c1_i32_187 : BitVec 32 := 1#32
  let arg12 : BitVec 32 := Scf.iv c0_i32_185 c1_i32_187 k1_t7
  let v170 : Index := Scalar.indexCast arg12
  let c0_217 : Index := 0#32
  ![v170.toNat, 0]
def k1_off29 (k1_t7 : Fin k1_t7_loop.trips) : Fin 2 → Nat :=
  let c0_i32_185 : BitVec 32 := 0#32
  let c1_i32_187 : BitVec 32 := 1#32
  let arg12 : BitVec 32 := Scf.iv c0_i32_185 c1_i32_187 k1_t7
  let v181 : Index := Scalar.indexCast arg12
  let c16 : Index := 16#32
  ![v181.toNat, 16]
def k1_off30 (k1_t7 : Fin k1_t7_loop.trips) : Fin 2 → Nat :=
  let c0_i32_185 : BitVec 32 := 0#32
  let c1_i32_187 : BitVec 32 := 1#32
  let arg12 : BitVec 32 := Scf.iv c0_i32_185 c1_i32_187 k1_t7
  let v184 : Index := Scalar.indexCast arg12
  let c16_219 : Index := 16#32
  ![v184.toNat, 16]
@[reducible] def k1_t8_loop : Scf.Loop 32 :=
  let c0_i32_212 : BitVec 32 := 0#32
  let c256_i32_213 : BitVec 32 := 256#32
  let v162 : BitVec 32 := Scalar.addi c0_i32_212 c256_i32_213
  let c1_i32_214 : BitVec 32 := 1#32
  ⟨c0_i32_212, v162, c1_i32_214⟩
def k1_off31 (k1_t8 : Fin k1_t8_loop.trips) : Fin 2 → Nat :=
  let c0_i32_212 : BitVec 32 := 0#32
  let c1_i32_214 : BitVec 32 := 1#32
  let arg12 : BitVec 32 := Scf.iv c0_i32_212 c1_i32_214 k1_t8
  let v167 : Index := Scalar.indexCast arg12
  let c0_216 : Index := 0#32
  ![v167.toNat, 0]
def k1_off32 (k1_t8 : Fin k1_t8_loop.trips) : Fin 2 → Nat :=
  let c0_i32_212 : BitVec 32 := 0#32
  let c1_i32_214 : BitVec 32 := 1#32
  let arg12 : BitVec 32 := Scf.iv c0_i32_212 c1_i32_214 k1_t8
  let v170 : Index := Scalar.indexCast arg12
  let c0_217 : Index := 0#32
  ![v170.toNat, 0]
def k1_off33 (k1_t8 : Fin k1_t8_loop.trips) : Fin 2 → Nat :=
  let c0_i32_212 : BitVec 32 := 0#32
  let c1_i32_214 : BitVec 32 := 1#32
  let arg12 : BitVec 32 := Scf.iv c0_i32_212 c1_i32_214 k1_t8
  let v181 : Index := Scalar.indexCast arg12
  let c16 : Index := 16#32
  ![v181.toNat, 16]
def k1_off34 (k1_t8 : Fin k1_t8_loop.trips) : Fin 2 → Nat :=
  let c0_i32_212 : BitVec 32 := 0#32
  let c1_i32_214 : BitVec 32 := 1#32
  let arg12 : BitVec 32 := Scf.iv c0_i32_212 c1_i32_214 k1_t8
  let v184 : Index := Scalar.indexCast arg12
  let c16_219 : Index := 16#32
  ![v184.toNat, 16]
def k1_off35 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_216_r17 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x1024x32 : Shape := ⟨3, ![64, 1024, 32]⟩
abbrev S8192x32 : Shape := ⟨2, ![8192, 32]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S8192 : Shape := ⟨1, ![8192]⟩
abbrev S1x8192 : Shape := ⟨2, ![1, 8192]⟩
abbrev S65536x8192 : Shape := ⟨2, ![65536, 8192]⟩
abbrev S32x8192 : Shape := ⟨2, ![32, 8192]⟩
abbrev S1 : Shape := ⟨1, ![1]⟩
abbrev S1x1 : Shape := ⟨2, ![1, 1]⟩
abbrev S64x1024 : Shape := ⟨2, ![64, 1024]⟩

abbrev nBuf : Space → Nat
  | .hbm => 67
  | .vmem => 0
  | .smem => 0
  | _ => 0

abbrev bufTy : (tb : Table) → Fin (tcTables nBuf tb) → BufTy
  | .hbm, ⟨0, _⟩ => ⟨S64x1024x32, .f32⟩
  | .hbm, ⟨1, _⟩ => ⟨S8192x32, .f32⟩
  | .hbm, ⟨2, _⟩ => ⟨S65536x32, .f32⟩
  | .hbm, ⟨3, _⟩ => ⟨S65536x32, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S65536x8192, .f32⟩
  | .hbm, ⟨12, _⟩ => ⟨S65536x8192, .f32⟩
  | .hbm, ⟨13, _⟩ => ⟨S65536x8192, .f32⟩
  | .hbm, ⟨14, _⟩ => ⟨S32x8192, .f32⟩
  | .hbm, ⟨15, _⟩ => ⟨S65536x8192, .f32⟩
  | .hbm, ⟨16, _⟩ => ⟨S_, .f32⟩
  | .hbm, ⟨17, _⟩ => ⟨S65536x8192, .f32⟩
  | .hbm, ⟨18, _⟩ => ⟨S65536x8192, .f32⟩
  | .hbm, ⟨19, _⟩ => ⟨S65536x8192, .f32⟩
  | .hbm, ⟨20, _⟩ => ⟨S65536x8192, .i32⟩
  | .hbm, ⟨21, _⟩ => ⟨S_, .f32⟩
  | .hbm, ⟨22, _⟩ => ⟨S_, .i32⟩
  | .hbm, ⟨23, _⟩ => ⟨S65536, .f32⟩
  | .hbm, ⟨24, _⟩ => ⟨S65536, .i32⟩
  | .hbm, ⟨25, _⟩ => ⟨S_, .i32⟩
  | .hbm, ⟨26, _⟩ => ⟨S65536, .i32⟩
  | .hbm, ⟨27, _⟩ => ⟨S65536, .i1⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S65536, .i32⟩
  | .hbm, ⟨32, _⟩ => ⟨S65536x1, .i32⟩
  | .hbm, ⟨33, _⟩ => ⟨S1, .i32⟩
  | .hbm, ⟨34, _⟩ => ⟨S_, .i32⟩
  | .hbm, ⟨35, _⟩ => ⟨S65536x1, .i32⟩
  | .hbm, ⟨36, _⟩ => ⟨S65536x1, .i1⟩
  | .hbm, ⟨37, _⟩ => ⟨S1x1, .i32⟩
  | .hbm, ⟨38, _⟩ => ⟨S65536x1, .i32⟩
  | .hbm, ⟨39, _⟩ => ⟨S65536x1, .i1⟩
  | .hbm, ⟨40, _⟩ => ⟨S65536x1, .i1⟩
  | .hbm, ⟨41, _⟩ => ⟨S_, .i1⟩
  | .hbm, ⟨42, _⟩ => ⟨S65536, .i1⟩
  | .hbm, ⟨43, _⟩ => ⟨S65536x32, .f32⟩
  | .hbm, ⟨44, _⟩ => ⟨S65536x32, .i1⟩
  | .hbm, ⟨45, _⟩ => ⟨S_, .f32⟩
  | .hbm, ⟨46, _⟩ => ⟨S65536x32, .f32⟩
  | .hbm, ⟨47, _⟩ => ⟨S65536x32, .f32⟩
  | .hbm, ⟨48, _⟩ => ⟨S65536x32, .f32⟩
  | .hbm, ⟨49, _⟩ => ⟨S65536x32, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S65536x32, .f32⟩
  | .hbm, ⟨55, _⟩ => ⟨S65536x32, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S65536x32, .f32⟩
  | .hbm, ⟨64, _⟩ => ⟨S65536x32, .f32⟩
  | .hbm, ⟨65, _⟩ => ⟨S64x1024x32, .f32⟩
  | .hbm, ⟨66, _⟩ => ⟨S64x1024, .i32⟩
  | _, _ => ⟨S64x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_cst_6 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩

abbrev nD : Nat := 1
abbrev τ : Topo := Topo.v7x

variable {F : FTy → Type} [FloatOps F]
-- ==== Proof.TileProg.lean ====
/-
  The vector subcore's function as the steps it repeats.

  A tile fetches its index rows, works through eight chunks of 256 rows of `z` and stores its partial sums (`tile`).
  Every chunk is the same program at its own list rows, block of rows and two semaphores (`chunk`): two gathers of 128
  table rows each on one semaphore, the copy in of `z`'s rows, the waits, a loop over the 256 rows (`trip`), the copy out.
  `body_eq` says that the printed function, whose text spells all eight chunks, is that program.
-/
module

public import proofs.«01_k».proof.Proof.Gen.KernelIdeal.Skeleton
public import Idealize.ShloMosaic.Lib.Pipeline.Regions

@[expose] public section

noncomputable section
namespace Cert.Proof

open Cert.KernelIdeal Cert.KernelIdeal.Gen
open Idealize.ShloMosaic Idealize.SL.Sem
variable {F : FTy → Type} [FloatOps F]

section
variable (L : grid1.Coords)

/-- The table, padded, in HBM. -/
abbrev tV : Memref sig .scVector .hbm S8200x128 .f32 := Memref.whole main_v10_scv
/-- The input rows in HBM. -/
abbrev zV : Memref sig .scVector .hbm S65536x32 .f32 := Memref.whole main_v0_scv
/-- The indices in HBM, 128 to a row. -/
abbrev iV : Memref sig .scVector .hbm S512x128 .i32 := Memref.whole main_v11_scv
/-- The output rows in HBM. -/
abbrev oV : Memref sig .scVector .hbm S65536x32 .f32 := Memref.whole main_v12_0_scv
/-- The partial sums in HBM, a row to a tile. -/
abbrev pV : Memref sig .scVector .hbm S32x16 .f32 := Memref.whole main_v12_1_scv
/-- The tile's index lists. -/
abbrev ixV : Memref sig .scVector .vmem S16x128 .i32 := Memref.whole cc1_scratch0
/-- The tile's gathered table rows. -/
abbrev rwV : Memref sig .scVector .vmem S256x128 .f32 := Memref.whole cc1_scratch1
/-- The tile's rows of `z`, which the loop overwrites with the output's. -/
abbrev zbV : Memref sig .scVector .vmem S256x32 .f32 := Memref.whole cc1_scratch2
/-- The tile's partial sums, staged for the copy out. -/
abbrev acV : Memref sig .scVector .vmem S16 .f32 := Memref.whole cc1_scratch3

/-- List row `2c + h` lies in the index lists. -/
theorem listInb : ∀ (c : Fin 8) (h : Fin 2), ∀ a, (![2 * c.val + h.val, 0] : Fin 2 → ℕ) a + S1x128.size a ≤ S16x128.size a := by decide
/-- Half `h` lies in the gathered rows. -/
theorem halfInb : ∀ (h : Fin 2), ∀ a, (![128 * h.val, 0] : Fin 2 → ℕ) a + S128x128.size a ≤ S256x128.size a := by decide

/-- All of the table, as a gather names it. -/
abbrev tAll : Memref sig .scVector .hbm S8200x128 .f32 :=
  tV.slice (Rect.unit (s := S8200x128) ![0, 0] S8200x128.size inb_S8200x128_S8200x128_0_0) (fun _ => rfl)
/-- Half `h` of the gathered rows. -/
abbrev half (h : Fin 2) : Memref sig .scVector .vmem S128x128 .f32 :=
  rwV.slice (Rect.unit (s := S256x128) ![128 * h.val, 0] S128x128.size (halfInb h)) (fun _ => rfl)
/-- The index list of half `h` of chunk `c`. -/
abbrev list (c : Fin 8) (h : Fin 2) : Memref sig .scVector .vmem S128 .i32 :=
  (ixV.slice (Rect.unit (s := S16x128) ![2 * c.val + h.val, 0] S1x128.size (listInb c h)) (fun _ => rfl)).squeeze S128 squeezes_S1x128_S128
/-- Chunk `c`'s rows of the input. -/
abbrev zRows (c : Fin 8) : Memref sig .scVector .hbm S256x32 .f32 :=
  zV.slice (Rect.unit (s := S65536x32) (k1_off2 L (BitVec.ofNat 32 (256 * c.val))) S256x32.size (k1_off2_inb L c)) (fun _ => rfl)
/-- Chunk `c`'s rows of the output. -/
abbrev oRows (c : Fin 8) : Memref sig .scVector .hbm S256x32 .f32 :=
  oV.slice (Rect.unit (s := S65536x32) (k1_off2 L (BitVec.ofNat 32 (256 * c.val))) S256x32.size (k1_off2_inb L c)) (fun _ => rfl)
/-- The tile's rows of the indices. -/
abbrev iRows : Memref sig .scVector .hbm S16x128 .i32 :=
  iV.slice (Rect.unit (s := S512x128) (k1_off1 L) S16x128.size (k1_off1_inb L)) (fun _ => rfl)
/-- The tile's row of the partial sums. -/
abbrev pRow : Memref sig .scVector .hbm S16 .f32 :=
  (pV.slice (Rect.unit (s := S32x16) (k1_off35 L) S1x16.size (k1_off35_inb L)) (fun _ => rfl)).squeeze S16 squeezes_S1x16_S16

/-- The semaphore of chunk `c`'s copy in. -/
def inSem : Fin 8 → DmaSem sig
  | 0 => cc1_scoped1.sem | 1 => cc1_scoped3.sem | 2 => cc1_scoped5.sem | 3 => cc1_scoped7.sem
  | 4 => cc1_scoped9.sem | 5 => cc1_scoped11.sem | 6 => cc1_scoped13.sem | 7 => cc1_scoped15.sem
/-- The semaphore of chunk `c`'s copy out. -/
def outSem : Fin 8 → DmaSem sig
  | 0 => cc1_scoped2.sem | 1 => cc1_scoped4.sem | 2 => cc1_scoped6.sem | 3 => cc1_scoped8.sem
  | 4 => cc1_scoped10.sem | 5 => cc1_scoped12.sem | 6 => cc1_scoped14.sem | 7 => cc1_scoped16.sem

/-- A program of the vector subcore at coordinates `L`. -/
abbrev TileProg (α : Type) : Type 1 :=
  Prog (TpuEff nD τ sig (Elt F) Λ₀ (.scVector ((L 0).castLE hcore1) ((L 1).castLE hsub1))) α

/-- One half of a chunk's rows gathered from the table. -/
def gather (c : Fin 8) (h : Fin 2) : TileProg (F := F) L PUnit :=
  SparseCore.enqueueIndirectGather rfl tAll (half h) gathers_S8200x128_S128x128 (list c h) rfl cc1_scratch4.sem (View.wordExact_bits rfl) rfl (Or.inl rfl)

/-- The wait for one half. -/
def gatherWait (h : Fin 2) : TileProg (F := F) L PUnit :=
  SparseCore.waitIndirectGather cc1_scratch4.sem tAll (half h) (View.wordExact_bits rfl) (View.wordExact_bits rfl)

/-- The copy in of chunk `c`'s rows of `z`. -/
def zCopy (c : Fin 8) : TileProg (F := F) L PUnit :=
  Prog.lift (.enqueueDma (zRows L c) (.here zbV) (.dma (inSem c)) (View.wordExact_bits rfl) (Memref.isWhole_whole _).wordExact ⟨Or.inl rfl, trivial⟩)
/-- Its wait. -/
def zWait (c : Fin 8) : TileProg (F := F) L PUnit :=
  Prog.lift (.waitDma2 (inSem c) (zRows L c) zbV (View.wordExact_bits rfl) (Memref.isWhole_whole _).wordExact)
/-- The copy out of chunk `c`'s rows. -/
def oCopy (c : Fin 8) : TileProg (F := F) L PUnit :=
  Prog.lift (.enqueueDma zbV (.here (oRows L c)) (.dma (outSem c)) (Memref.isWhole_whole _).wordExact (View.wordExact_bits rfl) ⟨Or.inl rfl, trivial⟩)
/-- Its wait. -/
def oWait (c : Fin 8) : TileProg (F := F) L PUnit :=
  Prog.lift (.waitDma2 (outSem c) zbV (oRows L c) (Memref.isWhole_whole _).wordExact (View.wordExact_bits rfl))

/-- One trip of the loop. -/
def trip (t : Fin k1_t1_loop.trips) (acc : FVec F S16 .f32) : TileProg (F := F) L (FVec F S16 .f32) := do
    let v168 : Vec F S1x16 .f32 ← Prog.lift (.load rwV (Rect.unit (s := S256x128) (k1_off3 t) S1x16.size (k1_off3_inb t)).toLoadRect (View.loadsAt_vmem h_S1x16))
    let v171 : Vec F S1x16 .f32 ← Prog.lift (.load zbV (Rect.unit (s := S256x32) (k1_off4 t) S1x16.size (k1_off4_inb t)).toLoadRect (View.loadsAt_vmem h_S1x16))
    let _v178 : Vec F S1x16 .f32 ← Prog.lift (.load zbV (Rect.unit (s := S256x32) (k1_off4 t) S1x16.size (k1_off4_inb t)).toLoadRect (View.loadsAt_vmem h_S1x16))
    Prog.lift (.store zbV (Rect.unit (s := S256x32) (k1_off4 t) S1x16.size (k1_off4_inb t)) (k1_pay5 v168 v171) Finset.univ (View.stores_vmem_bits_univ h_S1x16 rfl) (.inl rfl))
    let v182 : Vec F S1x16 .f32 ← Prog.lift (.load rwV (Rect.unit (s := S256x128) (k1_off5 t) S1x16.size (k1_off5_inb t)).toLoadRect (View.loadsAt_vmem h_S1x16))
    let v185 : Vec F S1x16 .f32 ← Prog.lift (.load zbV (Rect.unit (s := S256x32) (k1_off6 t) S1x16.size (k1_off6_inb t)).toLoadRect (View.loadsAt_vmem h_S1x16))
    let _v192 : Vec F S1x16 .f32 ← Prog.lift (.load zbV (Rect.unit (s := S256x32) (k1_off6 t) S1x16.size (k1_off6_inb t)).toLoadRect (View.loadsAt_vmem h_S1x16))
    Prog.lift (.store zbV (Rect.unit (s := S256x32) (k1_off6 t) S1x16.size (k1_off6_inb t)) (k1_pay9 v182 v185) Finset.univ (View.stores_vmem_bits_univ h_S1x16 rfl) (.inl rfl))
    pure (k1_pay8 acc v168 v171 v182 v185)

/-- Chunk `c` of a tile's rows. -/
def chunk (c : Fin 8) (acc : FVec F S16 .f32) : TileProg (F := F) L (FVec F S16 .f32) := do
  gather L c 0
  gather L c 1
  zCopy L c
  zWait L c
  gatherWait L 0
  gatherWait L 1
  let acc' ← Scf.Loop.for k1_t1_loop k1_t1_ok acc (trip L)
  oCopy L c
  oWait L c
  pure acc'

/-- The fetch of the index lists and its wait. -/
def fetch : TileProg (F := F) L PUnit := do
  Prog.lift (.enqueueDma (iRows L) (.here ixV) (.dma cc1_scoped0.sem) (View.wordExact_bits rfl) (Memref.isWhole_whole _).wordExact ⟨Or.inl rfl, trivial⟩)
  Prog.lift (.waitDma2 cc1_scoped0.sem (iRows L) ixV (View.wordExact_bits rfl) (Memref.isWhole_whole _).wordExact)

/-- The partial sums stored and copied out. -/
def finish (acc : FVec F S16 .f32) : TileProg (F := F) L PUnit := do
  let _v164 : Vec F S16 .f32 ← Prog.lift (.load acV (Rect.unit (s := S16) ![0] S16.size inb_S16_S16_0).toLoadRect (View.loadsAt_vmem h_S16))
  Prog.lift (.store acV (Rect.unit (s := S16) ![0] S16.size inb_S16_S16_0) (k1_pay1 acc) Finset.univ (View.stores_vmem_bits_univ h_S16 rfl) (.inl rfl))
  Prog.lift (.enqueueDma acV (.here (pRow L)) (.dma cc1_scoped17.sem) (Memref.isWhole_whole _).wordExact ((View.wordExact_bits rfl).reshape _ _) ⟨Or.inl rfl, trivial⟩)
  Prog.lift (.waitDma2 cc1_scoped17.sem acV (pRow L) (Memref.isWhole_whole _).wordExact ((View.wordExact_bits rfl).reshape _ _))

/-- A whole tile. -/
def tile : TileProg (F := F) L PUnit := do
  fetch L
  let a ← chunk L 0 (k1_pay2 (F := F))
  let a ← chunk L 1 a
  let a ← chunk L 2 a
  let a ← chunk L 3 a
  let a ← chunk L 4 a
  let a ← chunk L 5 a
  let a ← chunk L 6 a
  let a ← chunk L 7 a
  finish L a

/-- The printed function on the arrays and scratch that the launch gives it. -/
abbrev body : TileProg (F := F) L PUnit :=
  cc1__sc_gather_body L tV (Memref.isWhole_whole _) zV (Memref.isWhole_whole _) iV (Memref.isWhole_whole _) oV (Memref.isWhole_whole _)
    pV (Memref.isWhole_whole _) ixV (Memref.isWhole_whole _) rwV (Memref.isWhole_whole _) zbV (Memref.isWhole_whole _) acV (Memref.isWhole_whole _)
    cc1_scratch4 cc1_scoped0 cc1_scoped1 cc1_scoped2 cc1_scoped3 cc1_scoped4 cc1_scoped5 cc1_scoped6 cc1_scoped7 cc1_scoped8 cc1_scoped9
    cc1_scoped10 cc1_scoped11 cc1_scoped12 cc1_scoped13 cc1_scoped14 cc1_scoped15 cc1_scoped16 cc1_scoped17

set_option maxRecDepth 65536 in
/-- The printed function is the eight chunks between the fetch and the final store. -/
theorem body_eq : body (F := F) L = tile L := by
  unfold body
  simp only [cc1__sc_gather_body_eq_skeleton, k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton,
    cc1__sc_gather_body_skel, k1_part1_skel, k1_part2_skel, k1_part3_skel, k1_part4_skel, k1_part5_skel,
    k1_part6_skel, k1_part7_skel, k1_part8_skel, k1_part9_skel, k1_part10_skel, tile, fetch, chunk, finish, bind_assoc, pure_bind]
  rfl

end
end Cert.Proof
end
-- ==== Proof.Vocab.lean ====
/-
  The launch's vocabulary: the configuration, the resource algebra, the buffers, and what the SparseCore call computes
  as functions of the table, the input rows and the indices.
-/
module

public import proofs.«01_k».proof.Defs
public import proofs.«01_k».proof.Proof.TileProg
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal.Launch

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The configuration and the ghost state -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The facts that the launch decides. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch handshakes' rounds, the pipeline's rounds and the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## What the SparseCore call computes -/

section Values

variable (Tb : Vec F S8200x128 .f32) (Z : Vec F S65536x32 .f32) (I : IVec S512x128 32)

/-- The index of input row `r`: the indices lie 128 to a row. -/
def wordAt (r : ℕ) : BitVec 32 := I (ix2 ⟨r / 128 % 512, Nat.mod_lt _ (by decide)⟩ ⟨r % 128, Nat.mod_lt _ (by decide)⟩)

/-- Lane `j` of the table row that input row `r`'s index names. -/
def tabAt (r j : ℕ) : F .f32 :=
  Tb (ix2 ⟨(wordAt I r).toNat % 8200, Nat.mod_lt _ (by decide)⟩ ⟨j % 128, Nat.mod_lt _ (by decide)⟩)

/-- Lane `j` of input row `r`. -/
def zAt (r j : ℕ) : F .f32 := Z (ix2 ⟨r % 65536, Nat.mod_lt _ (by decide)⟩ ⟨j % 32, Nat.mod_lt _ (by decide)⟩)

variable [FloatOps F]

/-- Row `r`'s difference at lane `j`. -/
def difAt (r j : ℕ) : F .f32 := FloatOps.subf (tabAt Tb I r j) (zAt Z r j)

/-- The output: each row of `z` moved by its difference. -/
def outOf : Vec F S65536x32 .f32 := fun p => FloatOps.addf (Z p) (difAt Tb Z I (p 0).val (p 1).val)

/-- Partial sums after `n` rows of differences `dif`, from `a`: lane `k` sums the squared differences of lanes `k` and
    `16 + k`, row by row. -/
def accFrom (dif : ℕ → ℕ → F .f32) (a : FVec F S16 .f32) : ℕ → FVec F S16 .f32
  | 0 => a
  | n + 1 => fun k => FloatOps.addf
      (FloatOps.addf (accFrom dif a n k) (FloatOps.mulf (dif n (k 0).val) (dif n (k 0).val)))
      (FloatOps.mulf (dif n (16 + (k 0).val)) (dif n (16 + (k 0).val)))

/-- The sums after `m + n` rows are those of the last `n` rows from those of the first `m`. -/
theorem accFrom_add (dif : ℕ → ℕ → F .f32) (a : FVec F S16 .f32) (m : ℕ) :
    ∀ n, accFrom dif a (m + n) = accFrom (fun r j => dif (m + r) j) (accFrom dif a m) n
  | 0 => rfl
  | n + 1 => by
    rw [Nat.add_succ, Nat.succ_eq_add_one]
    unfold accFrom
    rw [accFrom_add dif a m n]

/-- A tile's partial sums after `n` of its rows, from row `r₀`. -/
def accOf (r₀ n : ℕ) : FVec F S16 .f32 := accFrom (fun r j => difAt Tb Z I (r₀ + r) j) (k1_pay2 (F := F)) n

/-- The partial sums of all tiles, a row of 2048 input rows each. -/
def partOf : Vec F S32x16 .f32 := fun p => accOf Tb Z I (2048 * (p 0).val) 2048 (ix1 (p 1))

end Values

end Cert.Proof

end
-- ==== Proof.Loop.lean ====
/-
  One chunk's loop: 256 trips, each of which moves a row of `z` by its difference to the gathered row and adds the
  squared differences to the partial sums.
-/
module

public import proofs.«01_k».proof.Proof.Vocab
public import Idealize.ShloMosaic.Lib.ValueLayout
public import Idealize.ShloMosaic.Lib.Writes
public import Idealize.ShloMosaic.Lib.Scf

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

abbrev cV (L : grid1.Coords) : Fin τ.nSC := (L 0).castLE hcore1
abbrev jV (L : grid1.Coords) : Fin τ.nSub := (L 1).castLE hsub1

variable (d : Dev nD) (L : grid1.Coords)

/-- The difference of row `n` at lane `j`, read off the gathered rows `R` and the rows `f`. -/
def locDif (R : Vec F S256x128 .f32) (f : Vec F S256x32 .f32) (n j : ℕ) : F .f32 :=
  FloatOps.subf (R (ix2 ⟨n % 256, Nat.mod_lt _ (by decide)⟩ ⟨j % 128, Nat.mod_lt _ (by decide)⟩))
    (f (ix2 ⟨n % 256, Nat.mod_lt _ (by decide)⟩ ⟨j % 32, Nat.mod_lt _ (by decide)⟩))

/-- The rows after `n` trips: the first `n` are moved by their differences. -/
def moved (R : Vec F S256x128 .f32) (f : Vec F S256x32 .f32) (n : ℕ) : Vec F S256x32 .f32 := fun p =>
  if (p 0).val < n then FloatOps.addf (f p) (locDif R f (p 0).val (p 1).val) else f p

/-- A row's sixteen lanes without the row's axis. -/
theorem pay3_at (v : Vec F S1x16 .f32) (k : S16.Idx) : k1_pay3 v k = v (ix2 (0 : Fin 1) (k 0)) := by
  rw [show k = ix1 (k 0) from funext fun a => by fin_cases a; rfl]
  exact shapeCast_1a_a_apply (a := 16) v _ (k 0)

/-- The first sixteen lanes' new values. -/
theorem pay5_at (v w : Vec F S1x16 .f32) (x : S1x16.Idx) :
    k1_pay5 v w x = FloatOps.addf (w x) (FloatOps.subf (v x) (w x)) := by
  obtain ⟨u, k, rfl⟩ : ∃ (u : Fin 1) (k : Fin 16), x = ix2 u k := ⟨x 0, x 1, eq_ix2 x⟩
  obtain rfl : u = 0 := Subsingleton.elim _ _
  refine (shapeCast_a_1a_apply (a := 16) (addf (k1_pay3 w) (k1_pay4 v w)) shapeCasts_S16_S1x16 0 k).trans ?_
  exact congrArg₂ FloatOps.addf (pay3_at w _) (congrArg₂ FloatOps.subf (pay3_at v _) (pay3_at w _))

/-- The second sixteen lanes' new values. -/
theorem pay9_at (v w : Vec F S1x16 .f32) (x : S1x16.Idx) :
    k1_pay9 v w x = FloatOps.addf (w x) (FloatOps.subf (v x) (w x)) := pay5_at v w x

/-- A trip's new partial sums. -/
theorem pay8_at (acc : FVec F S16 .f32) (v w v' w' : Vec F S1x16 .f32) (k : S16.Idx) :
    k1_pay8 acc v w v' w' k = FloatOps.addf
      (FloatOps.addf (acc k) (FloatOps.mulf (FloatOps.subf (v (ix2 (0 : Fin 1) (k 0))) (w (ix2 (0 : Fin 1) (k 0))))
        (FloatOps.subf (v (ix2 (0 : Fin 1) (k 0))) (w (ix2 (0 : Fin 1) (k 0))))))
      (FloatOps.mulf (FloatOps.subf (v' (ix2 (0 : Fin 1) (k 0))) (w' (ix2 (0 : Fin 1) (k 0))))
        (FloatOps.subf (v' (ix2 (0 : Fin 1) (k 0))) (w' (ix2 (0 : Fin 1) (k 0))))) := by
  have h : ∀ v w : Vec F S1x16 .f32, FloatOps.subf (k1_pay3 v k) (k1_pay3 w k)
      = FloatOps.subf (v (ix2 (0 : Fin 1) (k 0))) (w (ix2 (0 : Fin 1) (k 0))) := fun v w =>
    congrArg₂ FloatOps.subf (pay3_at v k) (pay3_at w k)
  exact congrArg₂ FloatOps.addf (congrArg (FloatOps.addf (acc k)) (congrArg₂ FloatOps.mulf (h v w) (h v w)))
    (congrArg₂ FloatOps.mulf (h v' w') (h v' w'))

/-- A load of sixteen lanes of row `n` of the gathered rows. -/
theorem rw_load (g : Vec F S256x128 .f32) {off : Fin 2 → ℕ} (inb) (n o : ℕ) (h : off = ![n, o]) (hn : n < 256) (ho : o + 16 ≤ 128) (x : S1x16.Idx) :
    View.readAt (Elt F) rwV.view (Rect.unit (s := S256x128) off S1x16.size inb).toLoadRect g x
      = g (ix2 ⟨n % 256, Nat.mod_lt _ (by decide)⟩ ⟨(o + (x 1).val) % 128, Nat.mod_lt _ (by decide)⟩) := by
  subst h
  have h0 : (x 0).val < 1 := (x 0).isLt
  have h1 : (x 1).val < 16 := (x 1).isLt
  refine congrArg g (funext fun a => Fin.ext ?_)
  match a with
  | 0 => show n + 1 * (x 0).val = n % 256; omega
  | 1 => show o + 1 * (x 1).val = (o + (x 1).val) % 128; omega

/-- A load of sixteen lanes of row `n` of the rows of `z`. -/
theorem zb_load (g : Vec F S256x32 .f32) {off : Fin 2 → ℕ} (inb) (n o : ℕ) (h : off = ![n, o]) (hn : n < 256) (ho : o + 16 ≤ 32) (x : S1x16.Idx) :
    View.readAt (Elt F) zbV.view (Rect.unit (s := S256x32) off S1x16.size inb).toLoadRect g x
      = g (ix2 ⟨n % 256, Nat.mod_lt _ (by decide)⟩ ⟨(o + (x 1).val) % 32, Nat.mod_lt _ (by decide)⟩) := by
  subst h
  have h0 : (x 0).val < 1 := (x 0).isLt
  have h1 : (x 1).val < 16 := (x 1).isLt
  refine congrArg g (funext fun a => Fin.ext ?_)
  match a with
  | 0 => show n + 1 * (x 0).val = n % 256; omega
  | 1 => show o + 1 * (x 1).val = (o + (x 1).val) % 32; omega

/-- Row `n` is not yet moved after `n` trips. -/
theorem moved_at (R : Vec F S256x128 .f32) (f : Vec F S256x32 .f32) (n : ℕ) (p : S256x32.Idx) (h : (p 0).val = n) :
    moved R f n p = f p := if_neg (by omega)

/-- The piece of row `n` that starts at lane `o` is what `moved` holds there after trip `n`. -/
theorem piece_at (R : Vec F S256x128 .f32) (f : Vec F S256x32 .f32) (n o : ℕ) (hn : n < 256) (ho : o + 16 ≤ 32)
    {off off' : Fin 2 → ℕ} (inb inb' inb'') (h : off = ![n, o]) (h' : off' = ![n, o]) (x : S1x16.Idx) :
    k1_pay5 (View.readAt (Elt F) rwV.view (Rect.unit (s := S256x128) off' S1x16.size inb).toLoadRect R)
      (View.readAt (Elt F) zbV.view (Rect.unit (s := S256x32) off S1x16.size inb').toLoadRect (moved R f n)) x
      = moved R f (n + 1) ((Rect.unit (s := S256x32) off S1x16.size inb'').emb x) := by
  have h0 : (x 0).val < 1 := (x 0).isLt
  have h1 : (x 1).val < 16 := (x 1).isLt
  have e0 : ((Rect.unit (s := S256x32) off S1x16.size inb'').emb x 0).val = n := by
    subst h; show n + 1 * (x 0).val = n; omega
  have e1 : ((Rect.unit (s := S256x32) off S1x16.size inb'').emb x 1).val = o + (x 1).val := by
    subst h; show o + 1 * (x 1).val = o + (x 1).val; omega
  have ep : (Rect.unit (s := S256x32) off S1x16.size inb'').emb x
      = ix2 ⟨n % 256, Nat.mod_lt _ (by decide)⟩ ⟨(o + (x 1).val) % 32, Nat.mod_lt _ (by decide)⟩ := by
    funext a
    apply Fin.ext
    match a with
    | 0 => exact e0.trans (Nat.mod_eq_of_lt hn).symm
    | 1 => exact e1.trans (Nat.mod_eq_of_lt (by omega)).symm
  rw [pay5_at, rw_load R inb n o h' hn (by omega), zb_load _ inb' n o h hn ho, ← ep, moved_at _ _ _ _ e0]
  refine Eq.trans ?_ (if_pos (by omega : ((Rect.unit (s := S256x32) off S1x16.size inb'').emb x 0).val < n + 1)).symm
  rw [e0, e1]
  unfold locDif
  rw [← ep]

/-- The two stores of trip `n` make the rows after `n` trips those after `n + 1`. -/
theorem writes_moved (R : Vec F S256x128 .f32) (f : Vec F S256x32 .f32) (t : Fin k1_t1_loop.trips) :
    zbV.view.writes (Elt F) (moved R f t.val)
      [⟨Rect.unit (s := S256x32) (k1_off6 t) S1x16.size (k1_off6_inb t),
          k1_pay9 (View.readAt (Elt F) rwV.view (Rect.unit (s := S256x128) (k1_off5 t) S1x16.size (k1_off5_inb t)).toLoadRect R)
            (View.readAt (Elt F) zbV.view (Rect.unit (s := S256x32) (k1_off6 t) S1x16.size (k1_off6_inb t)).toLoadRect (moved R f t.val))⟩,
        ⟨Rect.unit (s := S256x32) (k1_off4 t) S1x16.size (k1_off4_inb t),
          k1_pay5 (View.readAt (Elt F) rwV.view (Rect.unit (s := S256x128) (k1_off3 t) S1x16.size (k1_off3_inb t)).toLoadRect R)
            (View.readAt (Elt F) zbV.view (Rect.unit (s := S256x32) (k1_off4 t) S1x16.size (k1_off4_inb t)).toLoadRect (moved R f t.val))⟩]
      = moved R f (t.val + 1) := by
  have ht : t.val < 256 := t.isLt
  funext y
  have hy1 : (y 1).val < 32 := (y 1).isLt
  refine (congrFun (View.read_whole (Val := Elt F) cc1_scratch2 _) y).symm.trans ?_
  by_cases hy : (y 0).val = t.val
  · refine View.read_writes_apply_of_pieces (v := View.whole cc1_scratch2) (f := moved R f t.val) (moved R f (t.val + 1)) _ ?_ y ?_
    · simp only [List.mem_cons, List.not_mem_nil, _root_.or_false]
      rintro p (rfl | rfl) x
      · exact piece_at R f t.val 16 ht (by decide) _ _ (k1_off6_inb t) (k1_off6_eq t) (k1_off5_eq t) x
      · exact piece_at R f t.val 0 ht (by decide) _ _ (k1_off4_inb t) (k1_off4_eq t) (k1_off3_eq t) x
    · by_cases h16 : (y 1).val < 16
      · refine ⟨_, List.mem_cons_of_mem _ List.mem_cons_self, (Rect.mem_set_unit (inb := k1_off4_inb t)).2 fun a => ?_⟩
        rw [k1_off4_eq]
        match a with
        | 0 => exact ⟨by show t.val ≤ (y 0).val; omega, by show (y 0).val < t.val + 1; omega⟩
        | 1 => exact ⟨Nat.zero_le _, by show (y 1).val < 0 + 16; omega⟩
      · refine ⟨_, List.mem_cons_self, (Rect.mem_set_unit (inb := k1_off6_inb t)).2 fun a => ?_⟩
        rw [k1_off6_eq]
        match a with
        | 0 => exact ⟨by show t.val ≤ (y 0).val; omega, by show (y 0).val < t.val + 1; omega⟩
        | 1 => exact ⟨by show 16 ≤ (y 1).val; omega, by show (y 1).val < 16 + 16; omega⟩
  · refine (View.read_writes_apply_of_forall_not_mem (v := View.whole cc1_scratch2) (f := moved R f t.val) y _ ?_).trans ?_
    · simp only [List.mem_cons, List.not_mem_nil, _root_.or_false]
      rintro p (rfl | rfl) hm
      · have := (Rect.mem_set_unit (inb := k1_off6_inb t)).1 hm 0
        rw [k1_off6_eq] at this
        have h2 : t.val ≤ (y 0).val ∧ (y 0).val < t.val + 1 := this
        omega
      · have := (Rect.mem_set_unit (inb := k1_off4_inb t)).1 hm 0
        rw [k1_off4_eq] at this
        have h2 : t.val ≤ (y 0).val ∧ (y 0).val < t.val + 1 := this
        omega
    · show moved R f t.val y = moved R f (t.val + 1) y
      unfold moved
      exact if_congr (by omega) rfl rfl

/-- A trip's partial sums, from those of the trips before. -/
theorem pay8_moved (R : Vec F S256x128 .f32) (f : Vec F S256x32 .f32) (a : FVec F S16 .f32) (t : Fin k1_t1_loop.trips) :
    k1_pay8 (accFrom (locDif R f) a t.val)
        (View.readAt (Elt F) rwV.view (Rect.unit (s := S256x128) (k1_off3 t) S1x16.size (k1_off3_inb t)).toLoadRect R)
        (View.readAt (Elt F) zbV.view (Rect.unit (s := S256x32) (k1_off4 t) S1x16.size (k1_off4_inb t)).toLoadRect (moved R f t.val))
        (View.readAt (Elt F) rwV.view (Rect.unit (s := S256x128) (k1_off5 t) S1x16.size (k1_off5_inb t)).toLoadRect R)
        (View.readAt (Elt F) zbV.view (Rect.unit (s := S256x32) (k1_off6 t) S1x16.size (k1_off6_inb t)).toLoadRect (moved R f t.val))
      = accFrom (locDif R f) a (t.val + 1) := by
  have ht : t.val < 256 := t.isLt
  funext k
  rw [pay8_at, rw_load R _ t.val 0 (k1_off3_eq t) ht (by decide), rw_load R _ t.val 16 (k1_off5_eq t) ht (by decide),
    zb_load _ _ t.val 0 (k1_off4_eq t) ht (by decide), zb_load _ _ t.val 16 (k1_off6_eq t) ht (by decide),
    moved_at _ _ _ _ (Nat.mod_eq_of_lt ht), moved_at _ _ _ _ (Nat.mod_eq_of_lt ht)]
  simp only [Nat.zero_add]
  rfl

/-- The loop: every row is moved, and the partial sums gain every row's squared differences. -/
theorem loop_run {β : Type} (kk : FVec F S16 .f32 → TileProg (F := F) L β) (Q : β → sProp 𝕄)
    (R : Buf (Elt F) (rwV.view.loc (V d (cV L) (jV L)))) (f : Buf (Elt F) (zbV.view.loc (V d (cV L) (jV L)))) (a : FVec F S16 .f32) :
    iprop((rwV.view.loc (V d (cV L) (jV L)) ↦{fullShare} R) ∗ (zbV.view.loc (V d (cV L) (jV L)) ↦{fullShare} f))
      ⊢ iprop((((rwV.view.loc (V d (cV L) (jV L)) ↦{fullShare} R) ∗ (zbV.view.loc (V d (cV L) (jV L)) ↦{fullShare} (moved R f 256)))
            -∗ wp frame (wpE (defs₀ (F := F)) 𝒱₀ (V d (cV L) (jV L)) none) Set.univ (kk (accFrom (locDif R f) a 256)) Q)
          -∗ wp frame (wpE (defs₀ (F := F)) 𝒱₀ (V d (cV L) (jV L)) none) Set.univ
              (Scf.Loop.for k1_t1_loop k1_t1_ok a (trip L) >>= kk) Q) := by
  iintro ⟨HR, Hz⟩ Hk
  iapply (Scf.wp_for_bind frame (wpE (defs₀ (F := F)) 𝒱₀ (V d (cV L) (jV L)) none) Set.univ k1_t1_loop.lb k1_t1_loop.ub k1_t1_loop.st k1_t1_ok a (trip L)
    (fun n acc => iprop(⌜acc = accFrom (locDif R f) a n⌝ ∗ (rwV.view.loc (V d (cV L) (jV L)) ↦{fullShare} R)
      ∗ (zbV.view.loc (V d (cV L) (jV L)) ↦{fullShare} (moved R f n)))) ?_) $$ [HR Hz]
  · intro t acc
    iintro ⟨%hacc, HR, Hz⟩
    subst hacc
    unfold trip
    sl_exec
    sl_step
    sl_unfold_run_names
    rw [writes_moved R f t]
    isplitr
    · ipureintro
      exact pay8_moved R f a t
    isplitl [HR]
    · iexact HR
    · iexact Hz
  · isplitr
    · ipureintro; rfl
    isplitl [HR]
    · iexact HR
    · rw [show moved R f 0 = f from funext fun p => if_neg (Nat.not_lt_zero _)]
      iexact Hz
  · iintro %acc ⟨%hacc, HR, Hz⟩
    subst hacc
    iapply Hk $$ [HR Hz]
    isplitl [HR]
    · iexact HR
    · iexact Hz

end Cert.Proof

end
-- ==== Proof.GatherBatch.lean ====
/-
  Several indirect gathers started on ONE DMA semaphore before any of them is waited for.

  A gather is a stream of row transfers, each paying the credit of one row onto the semaphore.  Two gathers in flight on
  one semaphore are therefore one BATCH of row transfers of equal credit (Lib/Batch.lean): the first gather issues the
  batch's first rows, the second its next ones, and a wait sized to one gather consumes that many rows' units without
  saying which rows have landed.  Once every unit of the batch is consumed, every row of both gathers has landed.

  * `rowDone` is what one row of a gather delivers: its row of the destination written, and the shares of the source and
    of its entry of the offset list lent to it.
  * `rows_join` puts all rows of a gather together: the destination written with the gather's payload, both shares whole.
  * `wp_gatherBatch` issues a gather as the next rows of a batch.
-/
module

public import Idealize.ShloMosaic.Lib.Batch
public import Idealize.ShloMosaic.Lib.SparseCore.Stream
public import Idealize.ShloMosaic.Lib.Tactic

@[expose] public section

noncomputable section

namespace Cert.Proof.GatherBatch

open Idealize.ShloMosaic Idealize.ShloMosaic.SparseCore
open Idealize.SL
open Idealize.SL.BI (sProp Storable bigSep bigSep_insert bigSep_congr)
open scoped Idealize.SL.BI
open Idealize.SL.BI.BIBase Idealize.SL.BI.Laws Idealize.SL.Sem Idealize.SL.ProofMode
open Idealize.SL.RA
open Idealize.ShloMosaic.Transfers (Batch batchBody pending pending_succ not_mem_pending_succ batch_creditUpdate)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

omit [Preorder Lvl] in
/-- Two assertions that entail each other are equal. -/
theorem eq_of_entails {P R : sProp 𝕄} (h : P ⊢ R) (h' : R ⊢ P) : P = R := BI.Entails.antisymm h h'

omit [Preorder Lvl] in
/-- The issue rights from the `j`-th transfer on are those of the next `o` transfers and those from the `j + o`-th on. -/
theorem pending_block {n : ℕ} (Φ : Fin n → sProp 𝕄) (j : ℕ) : ∀ (o : ℕ) (h : j + o ≤ n),
    bigSep (pending j) Φ = iprop((bigSep Finset.univ fun k : Fin o => Φ ⟨j + k.val, by omega⟩) ∗ bigSep (pending (j + o)) Φ)
  | 0, _ => by
    rw [show (Finset.univ : Finset (Fin 0)) = ∅ from rfl, BI.bigSep_empty, Nat.add_zero]
    exact (eq_of_entails emp_sep.1 emp_sep.2).symm
  | o + 1, h => by
    rw [pending_block Φ j o (by omega), Fin.univ_castSuccEmb, Finset.cons_eq_insert, SparseCore.bigSep_insert' (by simp), BI.bigSep_map,
      pending_succ (k := j + o) (by omega), SparseCore.bigSep_insert' (not_mem_pending_succ _)]
    have hl : ((Fin.castSuccEmb : Fin o ↪ Fin (o + 1)) : Fin o → Fin (o + 1)) = Fin.castSucc := rfl
    simp only [Fin.val_last, hl, Fin.val_castSucc]
    apply eq_of_entails
    · iintro ⟨H1, H2, H3⟩
      isplitl [H1 H2]
      · isplitl [H2]; · iexact H2
        iexact H1
      · iexact H3
    · iintro ⟨⟨H2, H1⟩, H3⟩
      isplitl [H1]; · iexact H1
      isplitl [H2] <;> iassumption

variable (src : Memref sig c.2.kind sp s₀ e) (dst : Memref sig c.2.kind .vmem s e) (hg : s₀.Gathers a s)
  (offs : Memref sig c.2.kind .vmem si .i32) (hn : si.numel = s.size hg.axis')

/-- Entry `k` of the offset list, as an index of it. -/
def entry (k : Fin (s.size hg.axis')) : si.Idx := si.rowMajor.symm (k.cast hn.symm)

theorem entry_bijective : Function.Bijective (entry hg hn) :=
  si.rowMajor.symm.bijective.comp (finCongr hn.symm).bijective

/-- What row `k` of a gather delivers: row `k` of the destination written with the source's row `r k`, its entry of the
    offset list and its piece of the source's share. -/
def rowDone (ho : 0 < s.size hg.axis') (q qo : PosShare TreeShare) (fs : Buf (Elt F) (src.view.loc c)) (fd : Buf (Elt F) (dst.view.loc c))
    (fo : Buf (Elt F) (offs.view.loc c)) (r : Fin (s.size hg.axis') → Fin (s₀.size hg.axis)) (k : Fin (s.size hg.axis')) : sProp 𝕄 :=
  iprop(((dst.view.loc c ↦[(dst.view.slice (s.rowRect hg.axis' k)).set]{fullShare}
            ((dst.view.slice (s.rowRect hg.axis' k)).write (Elt F) fd (fun i => src.view.read (Elt F) fs (hg.rowIdx (r k) i)) Finset.univ))
        ∗ (offs.view.loc c ↦[{offs.view.emb (entry hg hn k)}]{qo} fo))
      ∗ (src.view.loc c ↦[src.view.set]{pieceOf q _ ho k} fs))

instance rowDone_storable (ho : 0 < s.size hg.axis') (q qo : PosShare TreeShare) (fs : Buf (Elt F) (src.view.loc c)) (fd : Buf (Elt F) (dst.view.loc c))
    (fo : Buf (Elt F) (offs.view.loc c)) (r : Fin (s.size hg.axis') → Fin (s₀.size hg.axis)) (k : Fin (s.size hg.axis')) :
    Storable (upEmb : UEmb _ 𝕄) (rowDone (Ix := Ix) (Name := Name) (U := U) (Lvl := Lvl) c src dst hg offs hn ho q qo fs fd fo r k) := by
  unfold rowDone; infer_instance

/-- Every row of a gather in: the destination written with the gather's payload, the source's and the list's shares whole. -/
theorem rows_join (ho : 0 < s.size hg.axis') (q qo : PosShare TreeShare) (fs : Buf (Elt F) (src.view.loc c)) (fd : Buf (Elt F) (dst.view.loc c))
    (fo : Buf (Elt F) (offs.view.loc c)) (r : Fin (s.size hg.axis') → Fin (s₀.size hg.axis)) :
    bigSep Finset.univ (rowDone (Ix := Ix) (Name := Name) (U := U) (Lvl := Lvl) c src dst hg offs hn ho q qo fs fd fo r)
      ⊢ iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) := by
  unfold rowDone
  iintro H
  ihave H1 := Transfers.bigSep_sep_out _ _ _ $$ H
  icases H1 with ⟨H2, Hs⟩
  ihave H3 := Transfers.bigSep_sep_out _ _ _ $$ H2
  icases H3 with ⟨Hd, Ho⟩
  isplitl [Hd]
  · have h := pointsTo_rows_write (Ix := Ix) (Name := Name) (U := U) (Lvl := Lvl) c dst.view hg.axis' fd (fun k i => src.view.read (Elt F) fs (hg.rowIdx (r k) i))
      (gatherPayload hg (src.view.read (Elt F) fs) r) fun k i => by
      unfold gatherPayload; rw [Shape.Gathers.idx_rowRect_emb]
    refine (show _ ⊢ _ from ?_).trans h
    exact Entails.rfl
  isplitl [Hs]; · iapply (Entails.of_eq (pointsTo_piecesOf (src.view.set) fs ho q).symm) $$ Hs
  iapply (Entails.of_eq (pointsTo_entries c offs.view (entry hg hn) (entry_bijective hg hn) qo fo).symm) $$ Ho

variable {src dst hg offs hn}

/-- An indirect gather at the head of a program, issued as the next `s.size hg.axis'` row transfers of a batch on its
    semaphore: every row pays the same credit `N`, and what each delivers is what the batch was stated to deliver there. -/
theorem wp_gatherBatch [Infinite Name] [EC.LandsIn (upEmb : UEmb _ 𝕄)] {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ i, (dst.slice (s.rowRect hg.axis' i) (s.stride_rowRect hg.axis' i)).view.dmaCredit = N)
    (ho : 0 < s.size hg.axis') (hin : ∀ x, (offs.view.read (Elt F) fo x).toNat < s₀.size hg.axis)
    {n : ℕ} {D : Fin n → sProp 𝕄} {j u : ℕ} (hj : j + s.size hg.axis' ≤ n) (hu : u ≤ j * N)
    (hD : ∀ i : Fin (s.size hg.axis'), rowDone c src dst hg offs hn ho q qo fs fd fo (rows (offs.view.read (Elt F) fo) hn hin) i
      ⊢ D ⟨j + i.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun i w => (rowOf (s₀.size hg.axis) w).map (gatherRow c src dst hg sem hsrc he hsp hr i)) 0
  let r : Fin (s.size hg.axis') → Fin (s₀.size hg.axis) := rows (offs.view.read (Elt F) fo) hn hin
  let rd : Fin (s.size hg.axis') → RowDma τ sig (Elt F) c.2 sem := fun i => gatherRow c src dst hg sem hsrc he hsp hr i (r i)
  have hA : S.RowsAgree := by
    intro i x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hsum : ∑ i, (dst.slice (s.rowRect hg.axis' i) (s.stride_rowRect hg.axis' i)).view.dmaCredit = s.size hg.axis' * N := by
    rw [Finset.sum_congr rfl fun i _ => hN i, Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (pending_block (fun t => count EC (γ t) 0) j (s.size hg.axis') hj)) $$ HI
  icases HI' with ⟨Hγ, HI⟩
  ihave Hd' := (Entails.of_eq (pointsTo_rows c dst.view hg.axis' fullShare fd)) $$ Hd
  ihave Ho' := (Entails.of_eq (pointsTo_entries c offs.view (entry hg hn) (entry_bijective hg hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i : Fin (s.size hg.axis'), iprop(inv κ (batchBody EC (c, SemLoc.dma sem) N D γ γ₀)
          ∗ ((((dst.view.loc c ↦[(dst.view.slice (s.rowRect hg.axis' i)).set]{fullShare} fd)
              ∗ (offs.view.loc c ↦[{offs.view.emb (entry hg hn i)}]{qo} fo))
          ∗ (src.view.loc c ↦[src.view.set]{pieceOf q _ ho i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare}
            ((dst.view.slice (s.rowRect hg.axis' i)).write (Elt F) fd (fun x => src.view.read (Elt F) fs (hg.rowIdx (r i) x)) Finset.univ))
          ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · rw [show (rd i).dst.view.amount (.dma sem) = N from hN i]
        iapply (batch_creditUpdate EC (D := D) ⟨j + i.val, by omega⟩ (hD i))
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Cert.Proof.GatherBatch

end
-- ==== Proof.Chunk.lean ====
/-
  One chunk of a tile: the rows of the table gathered, the rows of `z` moved, the partial sums carried on.
-/
module

public import proofs.«01_k».proof.Proof.Loop
public import proofs.«01_k».proof.Proof.GatherBatch

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

variable (d : Dev nD) (L : grid1.Coords)

/-- The tile's signals, with waits beyond `W₀` on no launch level. -/
def owesFrom (O : CellTallies nD τ sig (HIx 1)) (W₀ : Waits sig (HIx 1)) : sProp 𝕄 :=
  iprop(∃ W, ⌜∀ p ∈ W, p ∈ W₀ ∨ p.2 = none⌝ ∗ owes (V d (cV L) (jV L)) O W)

/-! ## What the chunk's buffers hold -/

/-- The tile's number: its subcore pair. -/
def tileNo : ℕ := 2 * (L 1).val + (L 0).val

/-- The first input row of chunk `c` of tile `L`. -/
def firstRow (c : Fin 8) : ℕ := 2048 * tileNo L + 256 * c.val

theorem tileNo_lt : tileNo L < 32 := by
  have h0 : (L 0).val < 2 := (L 0).isLt
  have h1 : (L 1).val < 16 := (L 1).isLt
  unfold tileNo; omega

/-- The index lists of tile `L`. -/
def listsOf (I : IVec S512x128 32) : IVec S16x128 32 := fun p => wordAt I (2048 * tileNo L + 128 * (p 0).val + (p 1).val)

/-- 256 gathered rows from input row `r₀` on. -/
def rowsOf (Tb : Vec F S8200x128 .f32) (I : IVec S512x128 32) (r₀ : ℕ) : Vec F S256x128 .f32 := fun p => tabAt Tb I (r₀ + (p 0).val) (p 1).val

/-- 256 rows of `z` from row `r₀` on. -/
def zOf (Z : Vec F S65536x32 .f32) (r₀ : ℕ) : Vec F S256x32 .f32 := fun p => zAt Z (r₀ + (p 0).val) (p 1).val

omit [FloatOps F] in
/-- Element `x` of chunk `c`'s rows is element `(firstRow + x₀, x₁)`. -/
theorem chunk_emb (c : Fin 8) (x : S256x32.Idx) (a : Fin 2) :
    ((Rect.unit (s := S65536x32) (k1_off2 L (BitVec.ofNat 32 (256 * c.val))) S256x32.size (k1_off2_inb L c)).emb x a).val
      = (![firstRow L c + (x 0).val, (x 1).val] : Fin 2 → ℕ) a := by
  have h0 : (L 0).val < 2 := (L 0).isLt
  have h1 : (L 1).val < 16 := (L 1).isLt
  have e : k1_off2 L (BitVec.ofNat 32 (256 * c.val)) a = (![firstRow L c, 0] : Fin 2 → ℕ) a := by
    rw [k1_off2_eq]
    unfold firstRow tileNo
    match a with
    | 0 => show 4096 * (L 1).val + 2048 * (L 0).val + 256 * c.val = 2048 * (2 * (L 1).val + (L 0).val) + 256 * c.val; omega
    | 1 => rfl
  show k1_off2 L (BitVec.ofNat 32 (256 * c.val)) a + 1 * (x a).val = _
  rw [e]
  match a with
  | 0 => show firstRow L c + 1 * (x 0).val = firstRow L c + (x 0).val; omega
  | 1 => show 0 + 1 * (x 1).val = (x 1).val; omega

omit [FloatOps F] in
theorem firstRow_le (c : Fin 8) : firstRow L c + 256 ≤ 65536 := by
  have := tileNo_lt L
  unfold firstRow; omega

omit [FloatOps F] in
/-- The rows of `z` that chunk `c` reads. -/
theorem zRows_read (Z : Vec F S65536x32 .f32) (c : Fin 8) :
    (zRows L c).view.read (Elt F) Z = zOf Z (firstRow L c) := by
  have hr := firstRow_le L c
  funext x
  have hx0 : (x 0).val < 256 := (x 0).isLt
  have hx1 : (x 1).val < 32 := (x 1).isLt
  refine congrArg Z (funext fun a => Fin.ext ?_)
  refine (chunk_emb L c x a).trans ?_
  match a with
  | 0 => exact (Nat.mod_eq_of_lt (show firstRow L c + (x 0).val < 65536 by omega)).symm
  | 1 => exact (Nat.mod_eq_of_lt hx1).symm

/-- The copy in, waited for. -/
theorem z_run {β : Type} (c : Fin 8) (kk : PUnit → TileProg (F := F) L β) (Q : β → sProp 𝕄)
    (q : PosShare TreeShare) (Z : Buf (Elt F) (zV.view.loc (V d (cV L) (jV L)))) (f : Buf (Elt F) (zbV.view.loc (V d (cV L) (jV L))))
    (O : CellTallies nD τ sig (HIx 1)) (W₀ : Waits sig (HIx 1)) (hO : ∀ g, O g none = 0) :
    iprop(levAts (K (F := F)).L (K (F := F)).lev ∗ ((zRows L c).view.loc (V d (cV L) (jV L)) ↦[(zRows L c).view.set]{q} Z) ∗ (zbV.view.loc (V d (cV L) (jV L)) ↦{fullShare} f)
        ∗ semVal (V d (cV L) (jV L), SemLoc.dma (inSem c)) 0 ∗ owesFrom d L O W₀)
      ⊢ iprop((iprop(((zRows L c).view.loc (V d (cV L) (jV L)) ↦[(zRows L c).view.set]{q} Z) ∗ (zbV.view.loc (V d (cV L) (jV L)) ↦{fullShare} (zOf Z (firstRow L c)))
              ∗ semVal (V d (cV L) (jV L), SemLoc.dma (inSem c)) 0 ∗ owesFrom d L O W₀)
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (zCopy L c >>= fun _ => zWait L c >>= kk) Q) := by
  unfold zCopy zWait owesFrom
  iintro ⟨#Hlv, Hz, Hzb, Hs, %W, %hW, HO⟩ Hk
  ihave Hmw := (show levAts (K (F := F)).L (K (F := F)).lev ⊢ Transfers.MayWaits (V d (cV L) (jV L)) (default : HIx 1) O
      from (K (F := F)).mayWaits_none (thr := V d (cV L) (jV L)) hO) $$ Hlv
  sl_exec
  sl_unfold_run_names
  rw [show View.write (Elt F) zbV.view f (View.read (Elt F) (zRows L c).view Z) Finset.univ = zOf Z (firstRow L c) from
    (View.write_whole_univ (Val := Elt F) cc1_scratch2 _ _).trans (zRows_read L Z c)]
  iapply Hk $$ [Hz Hzb Hs HO]
  isplitl [Hz]; · iexact Hz
  isplitl [Hzb]; · iexact Hzb
  isplitl [Hs]; · iexact Hs
  iexists insert (SemLoc.dma (inSem c), default) W
  isplitr
  · ipureintro
    rintro p hp
    rcases Finset.mem_insert.1 hp with rfl | hp
    · exact Or.inr rfl
    · exact hW p hp
  · iexact HO

/-- The copy out, waited for. -/
theorem o_run {β : Type} (c : Fin 8) (kk : PUnit → TileProg (F := F) L β) (Q : β → sProp 𝕄)
    (f : Buf (Elt F) (zbV.view.loc (V d (cV L) (jV L)))) (g G : Buf (Elt F) (oV.view.loc (V d (cV L) (jV L))))
    (hG : ∀ x, f x = G ((oRows L c).view.emb x))
    (O : CellTallies nD τ sig (HIx 1)) (W₀ : Waits sig (HIx 1)) (hO : ∀ g, O g none = 0) :
    iprop(levAts (K (F := F)).L (K (F := F)).lev ∗ ((oRows L c).view.loc (V d (cV L) (jV L)) ↦[(oRows L c).view.set]{fullShare} g) ∗ (zbV.view.loc (V d (cV L) (jV L)) ↦{fullShare} f)
        ∗ semVal (V d (cV L) (jV L), SemLoc.dma (outSem c)) 0 ∗ owesFrom d L O W₀)
      ⊢ iprop((iprop(((oRows L c).view.loc (V d (cV L) (jV L)) ↦[(oRows L c).view.set]{fullShare} G) ∗ (zbV.view.loc (V d (cV L) (jV L)) ↦{fullShare} f)
              ∗ semVal (V d (cV L) (jV L), SemLoc.dma (outSem c)) 0 ∗ owesFrom d L O W₀)
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (oCopy L c >>= fun _ => oWait L c >>= kk) Q) := by
  unfold oCopy oWait owesFrom
  iintro ⟨#Hlv, Hz, Hzb, Hs, %W, %hW, HO⟩ Hk
  ihave Hmw := (show levAts (K (F := F)).L (K (F := F)).lev ⊢ Transfers.MayWaits (V d (cV L) (jV L)) (default : HIx 1) O
      from (K (F := F)).mayWaits_none (thr := V d (cV L) (jV L)) hO) $$ Hlv
  sl_exec
  sl_unfold_run_names
  iapply Hk $$ [Hz Hzb Hs HO]
  isplitl [Hz]
  · iapply (Entails.of_eq (pointsTo_congr ?_)) $$ Hz
    intro i hi
    obtain ⟨x, -, rfl⟩ := Finset.mem_map.1 hi
    have h := View.read_writes_apply_of_pieces (oRows L c).view g (fun y => f y)
      [⟨Rect.whole S256x32, ReadAs.same.apply (View.read (Elt F) zbV.view f)⟩]
      (fun p hp y => by
        obtain rfl := List.mem_singleton.1 hp
        exact congrArg f (Rect.emb_whole_apply S256x32 y).symm) x
      ⟨_, List.mem_singleton_self _, by rw [Rect.set_whole]; exact Finset.mem_univ _⟩
    exact h.trans (hG x)
  isplitl [Hzb]; · iexact Hzb
  isplitl [Hs]; · iexact Hs
  iexists insert (SemLoc.dma (outSem c), default) W
  isplitr
  · ipureintro
    rintro p hp
    rcases Finset.mem_insert.1 hp with rfl | hp
    · exact Or.inr rfl
    · exact hW p hp
  · iexact HO

/-! ## The two gathers on one semaphore -/

open GatherBatch

/-- A whole half's credit: its bits. -/
theorem half_credit : ∀ h : Fin 2, (half h).view.dmaCredit = 128 * 4096 := by decide

/-- One row's credit. -/
theorem row_credit (h : Fin 2) (i : Fin (S128x128.size gathers_S8200x128_S128x128.axis')) :
    ((half h).slice (S128x128.rowRect gathers_S8200x128_S128x128.axis' i) (S128x128.stride_rowRect gathers_S8200x128_S128x128.axis' i)).view.dmaCredit = 4096 := by
  revert h
  decide +revert

/-- The elements of half `h`. -/
theorem mem_half (h : Fin 2) (p : S256x128.Idx) : p ∈ (half h).view.set ↔ 128 * h.val ≤ (p 0).val ∧ (p 0).val < 128 * h.val + 128 := by
  have hp : (p 1).val < 128 := (p 1).isLt
  rw [show (half h).view.set = (Rect.unit (s := S256x128) ![128 * h.val, 0] S128x128.size (halfInb h)).set from View.set_slice_whole cc1_scratch1 _,
    Rect.mem_set_unit]
  constructor
  · intro H; exact H 0
  · intro H a
    match a with
    | 0 => exact H
    | 1 => exact ⟨Nat.zero_le _, by show (p 1).val < 0 + 128; omega⟩

theorem half_disjoint : Disjoint (half 0).view.set (half 1).view.set := by
  rw [Finset.disjoint_left]
  intro p h0 h1
  have h0 := ((mem_half 0 p).1 h0).2
  have h1 := ((mem_half 1 p).1 h1).1
  simp at h0 h1
  omega

theorem half_union : (half 0).view.set ∪ (half 1).view.set = Finset.univ := by
  ext p
  have hp : (p 0).val < 256 := (p 0).isLt
  rw [Finset.mem_union, mem_half, mem_half]
  simp only [Finset.mem_univ, iff_true]
  simp
  omega

theorem tAll_set : tAll.view.set = Finset.univ := by
  rw [show tAll.view.set = (Rect.unit (s := S8200x128) ![0, 0] S8200x128.size inb_S8200x128_S8200x128_0_0).set from View.set_slice_whole main_v10_scv _]
  ext p
  rw [Rect.mem_set_unit]
  simp only [Finset.mem_univ, iff_true]
  intro a
  match a with
  | 0 => exact ⟨Nat.zero_le _, by show (p 0).val < 0 + 8200; have := (p 0).isLt; simp at this; omega⟩
  | 1 => exact ⟨Nat.zero_le _, by show (p 1).val < 0 + 128; have := (p 1).isLt; simp at this; omega⟩

omit [FloatOps F] in
/-- The table as a gather names it is the whole table. -/
theorem tAll_read (Tb : Vec F S8200x128 .f32) : tAll.view.read (Elt F) Tb = Tb := by
  funext x
  refine congrArg Tb (funext fun a => Fin.ext ?_)
  match a with
  | 0 => show 0 + 1 * (x 0).val = (x 0).val; omega
  | 1 => show 0 + 1 * (x 1).val = (x 1).val; omega

omit [FloatOps F] in
/-- Entry `x` of the list of half `h` of chunk `c`. -/
theorem list_read (I : IVec S512x128 32) (c : Fin 8) (h : Fin 2) (x : S128.Idx) :
    (list c h).view.read (Elt F) (listsOf L I) x = wordAt I (firstRow L c + 128 * h.val + (x 0).val) := by
  have h0 : (L 0).val < 2 := (L 0).isLt
  have hx : (x 0).val < 128 := (x 0).isLt
  have he : ∀ hn : S128.numel = S1x128.numel, Shape.reshapeEquiv hn x = (ix2 (0 : Fin 1) (x 0) : S1x128.Idx) := by
    intro hn
    apply Shape.reshapeEquiv_eq_of_rowMajor
    rw [Shape.rowMajor_val_two, Shape.rowMajor_val_one]
    show 0 * 128 + (x 0).val = (x 0).val
    omega
  show listsOf L I ((Rect.unit (s := S16x128) ![2 * c.val + h.val, 0] S1x128.size (listInb c h)).emb (Shape.reshapeEquiv _ x)) = _
  rw [he]
  refine congrArg (wordAt I) ?_
  show 2048 * tileNo L + 128 * (2 * c.val + h.val + 1 * 0) + (0 + 1 * (x 0).val) = firstRow L c + 128 * h.val + (x 0).val
  unfold firstRow
  omega

omit [FloatOps F] in
/-- What a half's gather writes. -/
theorem gather_rows (Tb : Vec F S8200x128 .f32) (I : IVec S512x128 32) (R : Vec F S256x128 .f32) (c : Fin 8) (h : Fin 2)
    (hin : ∀ x, ((list c h).view.read (Elt F) (listsOf L I) x).toNat < S8200x128.size gathers_S8200x128_S128x128.axis) :
    ∀ p ∈ (half h).view.set, (half h).view.write (Elt F) R (SparseCore.gatherPayload gathers_S8200x128_S128x128 (tAll.view.read (Elt F) Tb)
      (SparseCore.rows ((list c h).view.read (Elt F) (listsOf L I)) rfl hin)) Finset.univ p = rowsOf Tb I (firstRow L c) p := by
  intro p hp
  obtain ⟨x, -, rfl⟩ := Finset.mem_map.1 hp
  rw [tAll_read]
  refine (View.write_emb_of_mem (v := (half h).view) R _ (Finset.mem_univ x)).trans ?_
  have hx0 : (x 0).val < 128 := (x 0).isLt
  have hx1 : (x 1).val < 128 := (x 1).isLt
  have e0 : ((half h).view.emb x 0).val = 128 * h.val + (x 0).val := by
    show 128 * h.val + 1 * (x 0).val = _; omega
  have e1 : ((half h).view.emb x 1).val = (x 1).val := by
    show 0 + 1 * (x 1).val = _; omega
  have hk : (((S128.rowMajor.symm ((x 0).cast rfl)) : S128.Idx) 0).val = (x 0).val := by
    rw [← Shape.rowMajor_val_one, Equiv.apply_symm_apply]; rfl
  have hw := list_read (F := F) L I c h (S128.rowMajor.symm ((x 0).cast rfl))
  rw [hk] at hw
  have hlt := hin (S128.rowMajor.symm ((x 0).cast rfl))
  rw [hw] at hlt
  have hlt' : (wordAt I (firstRow L c + 128 * h.val + (x 0).val)).toNat < 8200 := hlt
  show Tb (gathers_S8200x128_S128x128.idx _ x) = tabAt Tb I (firstRow L c + ((half h).view.emb x 0).val) ((half h).view.emb x 1).val
  rw [e0, e1, ← Nat.add_assoc]
  refine congrArg Tb (funext fun a => Fin.ext ?_)
  match a with
  | 0 =>
    refine (congrArg Fin.val (Shape.Gathers.idx_axis gathers_S8200x128_S128x128 _ x)).trans ?_
    exact (congrArg BitVec.toNat hw).trans (Nat.mod_eq_of_lt hlt').symm
  | 1 =>
    refine (Shape.Gathers.idx_of_ne gathers_S8200x128_S128x128 _ x 1 Nat.one_ne_zero).trans ?_
    exact (Nat.mod_eq_of_lt hx1).symm

end Cert.Proof

end
-- ==== Proof.Gathers.lean ====
/-
  A whole chunk: both gathers as one batch on their semaphore, the copy in, the waits, the loop, the copy out.
-/
module

public import proofs.«01_k».proof.Proof.Chunk

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

variable (d : Dev nD) (L : grid1.Coords)

open GatherBatch
open Idealize.ShloMosaic.Transfers (Batch)

/-- The thread of tile `L`. -/
abbrev thr : Thread nD τ := V d (cV L) (jV L)

section Deliveries

variable (c : Fin 8) (q : PosShare TreeShare) (Tb : Vec F S8200x128 .f32) (I : IVec S512x128 32) (R : Vec F S256x128 .f32) (hI : ∀ r, (wordAt I r).toNat < 8200)

include hI in
omit [FloatOps F] in
/-- Every entry of a list names a row of the table. -/
theorem list_in (h : Fin 2) (x : S128.Idx) :
    ((list c h).view.read (Elt F) (listsOf L I) x).toNat < S8200x128.size gathers_S8200x128_S128x128.axis := by
  rw [list_read]; exact hI _

/-- The share of the table that half `h`'s gather reads. -/
def qOf : Fin 2 → PosShare TreeShare
  | 0 => q.left
  | 1 => q.right

/-- The share of the lists that half `h`'s gather reads. -/
def qL : Fin 2 → PosShare TreeShare
  | 0 => fullShare.left
  | 1 => fullShare.right

/-- What row `k` of half `h` delivers. -/
def halfRow (h : Fin 2) (k : Fin 128) : sProp 𝕄 :=
  rowDone (Ix := HIx 1) (Name := ℕ) (U := UU) (Lvl := ℕ) (thr d L) tAll (half h) gathers_S8200x128_S128x128 (list c h) rfl (by decide) (qOf q h) (qL h) Tb R (listsOf L I)
    (SparseCore.rows ((list c h).view.read (Elt F) (listsOf L I)) rfl (list_in (F := F) L c I hI h)) k

instance (h : Fin 2) (k : Fin 128) : Storable (upEmb : UEmb _ 𝕄) (halfRow (F := F) d L c q Tb I R hI h k) := by
  exact rowDone_storable (thr d L) tAll (half h) gathers_S8200x128_S128x128 (list c h) rfl (by decide) (qOf q h) (qL h) Tb R (listsOf L I) _ k

/-- What transfer `t` of the batch delivers: the first 128 are half 0's rows, the rest half 1's. -/
def deliver (t : Fin 256) : sProp 𝕄 :=
  halfRow d L c q Tb I R hI ⟨t.val / 128, by omega⟩ ⟨t.val % 128, Nat.mod_lt _ (by decide)⟩

instance (t : Fin 256) : Storable (upEmb : UEmb _ 𝕄) (deliver (F := F) d L c q Tb I R hI t) := by
  unfold deliver; infer_instance

theorem deliver_at (h : Fin 2) (k : Fin 128) (t : Fin 256) (ht : t.val = 128 * h.val + k.val) :
    deliver (F := F) d L c q Tb I R hI t = halfRow d L c q Tb I R hI h k := by
  unfold deliver
  congr 1
  · exact Fin.ext (by show t.val / 128 = h.val; omega)
  · exact Fin.ext (by show t.val % 128 = k.val; omega)

/-- All deliveries are the two halves'. -/
theorem deliver_split : bigSep Finset.univ (deliver (F := F) d L c q Tb I R hI)
    = iprop((bigSep Finset.univ (halfRow d L c q Tb I R hI 0)) ∗ bigSep Finset.univ (halfRow d L c q Tb I R hI 1)) := by
  rw [← Transfers.pending_zero, pending_block _ 0 128 (by decide), pending_block _ (0 + 128) 128 (by decide)]
  rw [show (Transfers.pending (n := 256) (0 + 128 + 128)) = ∅ from by decide, BI.bigSep_empty]
  rw [show (bigSep Finset.univ fun k : Fin 128 => deliver (F := F) d L c q Tb I R hI ⟨0 + k.val, by omega⟩) = bigSep Finset.univ (halfRow d L c q Tb I R hI 0) from
    BI.bigSep_congr fun k _ => deliver_at d L c q Tb I R hI 0 k _ (by simp),
    show (bigSep Finset.univ fun k : Fin 128 => deliver (F := F) d L c q Tb I R hI ⟨0 + 128 + k.val, by omega⟩) = bigSep Finset.univ (halfRow d L c q Tb I R hI 1) from
    BI.bigSep_congr fun k _ => deliver_at d L c q Tb I R hI 1 k _ (by simp)]
  exact congrArg _ (eq_of_entails Laws.sep_emp.1 Laws.sep_emp.2)

/-- A half's rows in: the half at the gathered rows, the shares back. -/
theorem half_join (h : Fin 2) : bigSep Finset.univ (halfRow d L c q Tb I R hI h)
    ⊢ iprop(((half h).view.loc (thr d L) ↦[(half h).view.set]{fullShare} (rowsOf Tb I (firstRow L c)))
        ∗ (tAll.view.loc (thr d L) ↦[tAll.view.set]{qOf q h} Tb) ∗ ((list c h).view.loc (thr d L) ↦[(list c h).view.set]{qL h} (listsOf L I))) := by
  refine (rows_join (Ix := HIx 1) (Name := ℕ) (U := UU) (Lvl := ℕ) (thr d L) tAll (half h) gathers_S8200x128_S128x128 (list c h) rfl (by decide) (qOf q h) (qL h) Tb R (listsOf L I)
    (SparseCore.rows ((list c h).view.read (Elt F) (listsOf L I)) rfl (list_in (F := F) L c I hI h))).trans ?_
  exact Entails.of_eq (congrArg (fun X => iprop(X ∗ _ ∗ _)) (pointsTo_congr (gather_rows L Tb I R c h (list_in (F := F) L c I hI h))))

end Deliveries

omit [FloatOps F] in
/-- Partial sums read their differences at the summed rows and at lanes below 32 only. -/
theorem accFrom_congr [FloatOps F] {dif dif' : ℕ → ℕ → F .f32} (a : FVec F S16 .f32) :
    ∀ n, (∀ r j, r < n → j < 32 → dif r j = dif' r j) → accFrom dif a n = accFrom dif' a n
  | 0, _ => rfl
  | n + 1, h => by
    funext k
    have hk : (k 0).val < 16 := (k 0).isLt
    have ih := accFrom_congr a n fun r j hr hj => h r j (by omega) hj
    show FloatOps.addf (FloatOps.addf (accFrom dif a n k) _) _ = FloatOps.addf (FloatOps.addf (accFrom dif' a n k) _) _
    rw [ih, h n (k 0).val (by omega) (by omega), h n (16 + (k 0).val) (by omega) (by omega)]

/-- A chunk's differences are the arrays'. -/
theorem locDif_eq (Tb : Vec F S8200x128 .f32) (Z : Vec F S65536x32 .f32) (I : IVec S512x128 32) (r₀ n j : ℕ) (hn : n < 256) (hj : j < 32) :
    locDif (rowsOf Tb I r₀) (zOf Z r₀) n j = difAt Tb Z I (r₀ + n) j := by
  show FloatOps.subf (tabAt Tb I (r₀ + n % 256) (j % 128)) (zAt Z (r₀ + n % 256) (j % 32)) = _
  rw [Nat.mod_eq_of_lt hn, Nat.mod_eq_of_lt (show j < 128 by omega), Nat.mod_eq_of_lt hj]
  rfl

/-- What the loop leaves in the rows is the chunk's part of the output. -/
theorem moved_out (Tb : Vec F S8200x128 .f32) (Z : Vec F S65536x32 .f32) (I : IVec S512x128 32) (c : Fin 8) (x : S256x32.Idx) :
    moved (rowsOf Tb I (firstRow L c)) (zOf Z (firstRow L c)) 256 x = outOf Tb Z I ((oRows L c).view.emb x) := by
  have hx0 : (x 0).val < 256 := (x 0).isLt
  have hx1 : (x 1).val < 32 := (x 1).isLt
  have e0 : ((oRows L c).view.emb x 0).val = firstRow L c + (x 0).val := chunk_emb L c x 0
  have e1 : ((oRows L c).view.emb x 1).val = (x 1).val := chunk_emb L c x 1
  have hz : Z ((oRows L c).view.emb x) = zOf Z (firstRow L c) x := congrFun (zRows_read L Z c) x
  refine (if_pos hx0).trans ?_
  show _ = FloatOps.addf (Z ((oRows L c).view.emb x)) (difAt Tb Z I ((oRows L c).view.emb x 0).val ((oRows L c).view.emb x 1).val)
  rw [e0, e1, hz, locDif_eq Tb Z I _ _ _ hx0 hx1]

/-- A wait for one gather consumes its 128 rows' units. -/
theorem gw_run {β : Type} (h : Fin 2) (kk : PUnit → TileProg (F := F) L β) (Q : β → sProp 𝕄) {D : Fin 256 → sProp 𝕄} {u : ℕ} (hu : u + 128 * 4096 ≤ 4096 * 256)
    {O : CellTallies nD τ sig (HIx 1)} {W : Waits sig (HIx 1)} :
    iprop(Batch countersEmb (thr d L) (.dma cc1_scratch4.sem) (default : HIx 1) 4096 D 256 u ∗ owes (thr d L) O W ∗ MayWait (thr d L) (.dma cc1_scratch4.sem) default O)
      ⊢ iprop((iprop(Batch countersEmb (thr d L) (.dma cc1_scratch4.sem) (default : HIx 1) 4096 D 256 (u + 128 * 4096) ∗ owes (thr d L) O (insert (SemLoc.dma cc1_scratch4.sem, default) W))
            -∗ wp frame (wpE (defs₀ (F := F)) 𝒱₀ (thr d L) none) Set.univ (kk ⟨⟩) Q)
          -∗ wp frame (wpE (defs₀ (F := F)) 𝒱₀ (thr d L) none) Set.univ (gatherWait L h >>= kk) Q) :=
  Transfers.wp_waitBatchMulO countersEmb 𝒱₀ (thr d L) none (default : HIx 1) 128 (half_credit h) hu

/-- A chunk before a program, step by step. -/
theorem chunk_bind {β : Type} (c : Fin 8) (acc : FVec F S16 .f32) (kk : FVec F S16 .f32 → TileProg (F := F) L β) :
    chunk L c acc >>= kk = (gather L c 0 >>= fun _ => gather L c 1 >>= fun _ => zCopy L c >>= fun _ => zWait L c >>= fun _ => gatherWait L 0 >>= fun _ =>
      gatherWait L 1 >>= fun _ => Scf.Loop.for k1_t1_loop k1_t1_ok acc (trip L) >>= fun a => oCopy L c >>= fun _ => oWait L c >>= fun _ => kk a) := by
  unfold chunk
  simp only [bind_assoc, pure_bind]

/-- One list and the rest are the lists. -/
theorem lists_join (c : Fin 8) (h : Fin 2) (q : PosShare TreeShare) (f : IVec S16x128 32) :
    iprop((ixV.view.loc (thr d L) ↦[(list c h).view.set]{q} f) ∗ (ixV.view.loc (thr d L) ↦[Finset.univ \ (list c h).view.set]{q} f))
      ⊢ (ixV.view.loc (thr d L) ↦{q} f : sProp 𝕄) :=
  (pointsTo_split_subset (Finset.subset_univ (list c h).view.set)).2

/-- Chunk `c`: its rows of the output are written, and the partial sums gain its rows' squared differences. -/
theorem chunk_run {β : Type} (c : Fin 8) (acc : FVec F S16 .f32) (kk : FVec F S16 .f32 → TileProg (F := F) L β) (Q : β → sProp 𝕄)
    (q : PosShare TreeShare) (Tb : Vec F S8200x128 .f32) (Z : Vec F S65536x32 .f32) (I : IVec S512x128 32) (hI : ∀ r, (wordAt I r).toNat < 8200)
    (O : CellTallies nD τ sig (HIx 1)) (W₀ : Waits sig (HIx 1)) (hO : ∀ g, O g none = 0) :
    iprop(levAts (K (F := F)).L (K (F := F)).lev ∗ (tV.view.loc (thr d L) ↦{q} Tb) ∗ (ixV.view.loc (thr d L) ↦{fullShare} (listsOf L I))
        ∗ ((zRows L c).view.loc (thr d L) ↦[(zRows L c).view.set]{fullShare} Z) ∗ (∃ R, rwV.view.loc (thr d L) ↦{fullShare} R)
        ∗ (∃ f, zbV.view.loc (thr d L) ↦{fullShare} f) ∗ (∃ g, (oRows L c).view.loc (thr d L) ↦[(oRows L c).view.set]{fullShare} g)
        ∗ semVal (thr d L, SemLoc.dma cc1_scratch4.sem) 0 ∗ semVal (thr d L, SemLoc.dma (inSem c)) 0 ∗ semVal (thr d L, SemLoc.dma (outSem c)) 0
        ∗ owesFrom d L O W₀)
      ⊢ iprop((iprop((tV.view.loc (thr d L) ↦{q} Tb) ∗ (ixV.view.loc (thr d L) ↦{fullShare} (listsOf L I))
        ∗ ((zRows L c).view.loc (thr d L) ↦[(zRows L c).view.set]{fullShare} Z) ∗ (∃ R, rwV.view.loc (thr d L) ↦{fullShare} R)
        ∗ (∃ f, zbV.view.loc (thr d L) ↦{fullShare} f) ∗ ((oRows L c).view.loc (thr d L) ↦[(oRows L c).view.set]{fullShare} (outOf Tb Z I))
        ∗ semVal (thr d L, SemLoc.dma cc1_scratch4.sem) 0 ∗ semVal (thr d L, SemLoc.dma (inSem c)) 0 ∗ semVal (thr d L, SemLoc.dma (outSem c)) 0
        ∗ owesFrom d L O W₀)
            -∗ wp frame (wpE (defs₀ (F := F)) 𝒱₀ (thr d L) none) Set.univ (kk (accFrom (fun n j => difAt Tb Z I (firstRow L c + n) j) acc 256)) Q)
          -∗ wp frame (wpE (defs₀ (F := F)) 𝒱₀ (thr d L) none) Set.univ (chunk L c acc >>= kk) Q) := by
  rw [chunk_bind]
  iintro ⟨#Hlv, Ht, Hix, Hz, ⟨%R, HR⟩, ⟨%f, Hzb⟩, ⟨%g, Ho⟩, Hs, Hin, Hout, HO⟩ Hk
  ihave #Hmw := (show levAts (K (F := F)).L (K (F := F)).lev ⊢ Transfers.MayWaits (V d (cV L) (jV L)) (default : HIx 1) O
      from (K (F := F)).mayWaits_none (thr := V d (cV L) (jV L)) hO) $$ Hlv
  -- the batch, and what each gather needs
  imod (Transfers.batch_alloc' countersEmb (thr d L) (default : HIx 1) 4096 (deliver (F := F) d L c q Tb I R hI)) $$ Hs with HB
  ihave HR := (Entails.of_eq (show (rwV.view.loc (thr d L) ↦{fullShare} R : sProp 𝕄) = (rwV.view.loc (thr d L) ↦[(half 0).view.set ∪ (half 1).view.set]{fullShare} R) from by rw [half_union])) $$ HR
  ihave HR := (pointsTo_union half_disjoint).1 $$ HR
  icases HR with ⟨HR0, HR1⟩
  ihave Ht := (pointsTo_share (PosShare.mem_left_op_right q)).1 $$ Ht
  icases Ht with ⟨Ht0, Ht1⟩
  ihave Hix := (pointsTo_share (PosShare.mem_left_op_right fullShare)).1 $$ Hix
  icases Hix with ⟨Hix0, Hix1⟩
  ihave Hix0 := (pointsTo_split_subset (Finset.subset_univ (list c 0).view.set)).1 $$ Hix0
  icases Hix0 with ⟨Hl0, Hr0⟩
  ihave Hix1 := (pointsTo_split_subset (Finset.subset_univ (list c 1).view.set)).1 $$ Hix1
  icases Hix1 with ⟨Hl1, Hr1⟩
  ihave Ht0 := (Entails.of_eq (show (tV.view.loc (thr d L) ↦{q.left} Tb : sProp 𝕄) = (tAll.view.loc (thr d L) ↦[tAll.view.set]{qOf q 0} Tb) from by rw [tAll_set]; rfl)) $$ Ht0
  ihave Ht1 := (Entails.of_eq (show (tV.view.loc (thr d L) ↦{q.right} Tb : sProp 𝕄) = (tAll.view.loc (thr d L) ↦[tAll.view.set]{qOf q 1} Tb) from by rw [tAll_set]; rfl)) $$ Ht1
  -- the gathers
  unfold gather
  iapply (wp_gatherBatch (F := F) (defs := defs₀) countersEmb 𝒱₀ (thr d L) none (src := tAll) (dst := half 0) (hg := gathers_S8200x128_S128x128) (offs := list c 0) (hn := rfl)
    (q := qOf q 0) (qo := qL 0) (fs := Tb) (fd := R) (fo := listsOf L I)
    (default : HIx 1) 4096 (row_credit 0) (by decide) (list_in (F := F) L c I hI 0) (n := 256) (D := deliver (F := F) d L c q Tb I R hI) (j := 0) (u := 0) (by decide) (Nat.zero_le _)
    (fun k => Entails.of_eq (deliver_at d L c q Tb I R hI 0 k ⟨0 + k.val, _⟩ (by simp)).symm)) $$ [Ht0 HR0 Hl0 HB]
  · isplitl [Ht0]; · iexact Ht0
    isplitl [HR0]; · iexact HR0
    isplitl [Hl0]; · iexact Hl0
    iexact HB
  iintro HB
  iapply (wp_gatherBatch (F := F) (defs := defs₀) countersEmb 𝒱₀ (thr d L) none (src := tAll) (dst := half 1) (hg := gathers_S8200x128_S128x128) (offs := list c 1) (hn := rfl)
    (q := qOf q 1) (qo := qL 1) (fs := Tb) (fd := R) (fo := listsOf L I)
    (default : HIx 1) 4096 (row_credit 1) (by decide) (list_in (F := F) L c I hI 1) (n := 256) (D := deliver (F := F) d L c q Tb I R hI) (j := 128) (u := 0) (by decide) (Nat.zero_le _)
    (fun k => Entails.of_eq (deliver_at d L c q Tb I R hI 1 k ⟨128 + k.val, _⟩ (by simp)).symm)) $$ [Ht1 HR1 Hl1 HB]
  · isplitl [Ht1]; · iexact Ht1
    isplitl [HR1]; · iexact HR1
    isplitl [Hl1]; · iexact Hl1
    iexact HB
  iintro HB
  -- the copy in
  iapply (z_run d L c _ Q fullShare Z f O W₀ hO) $$ [Hz Hzb Hin HO]
  · isplitr; · iexact Hlv
    isplitl [Hz]; · iexact Hz
    isplitl [Hzb]; · iexact Hzb
    isplitl [Hin]; · iexact Hin
    iexact HO
  iintro ⟨Hz, Hzb, Hin, HO⟩
  -- the waits for the gathers
  unfold owesFrom
  icases HO with ⟨%W, %hW, HO⟩
  iapply (gw_run d L 0 _ Q (u := 0) (by decide)) $$ [HB HO]
  · isplitl [HB]; · iexact HB
    isplitl [HO]; · iexact HO
    iapply (Transfers.MayWaits.elim (SemLoc.dma cc1_scratch4.sem)) $$ Hmw
  iintro ⟨HB, HO⟩
  iapply (gw_run d L 1 _ Q (u := 0 + 128 * 4096) (by decide)) $$ [HB HO]
  · isplitl [HB]; · iexact HB
    isplitl [HO]; · iexact HO
    iapply (Transfers.MayWaits.elim (SemLoc.dma cc1_scratch4.sem)) $$ Hmw
  iintro ⟨HB, HO⟩
  imod (Transfers.batch_collect' countersEmb (thr d L) (n := 256) (N := 4096) (by decide)) $$ HB with ⟨HD, Hs⟩
  ihave HD := (Entails.of_eq (deliver_split d L c q Tb I R hI)) $$ HD
  icases HD with ⟨HD0, HD1⟩
  ihave HD0 := (half_join d L c q Tb I R hI 0) $$ HD0
  icases HD0 with ⟨HR0, Ht0, Hl0⟩
  ihave HD1 := (half_join d L c q Tb I R hI 1) $$ HD1
  icases HD1 with ⟨HR1, Ht1, Hl1⟩
  icombine HR0 HR1 as HR
  ihave HR := (pointsTo_union half_disjoint).2 $$ HR
  ihave HR := (Entails.of_eq (show ((half 0).view.loc (thr d L) ↦[(half 0).view.set ∪ (half 1).view.set]{fullShare} (rowsOf Tb I (firstRow L c)) : sProp 𝕄)
    = (rwV.view.loc (thr d L) ↦{fullShare} (rowsOf Tb I (firstRow L c))) from by rw [half_union])) $$ HR
  -- the loop
  iapply (loop_run d L _ Q (rowsOf Tb I (firstRow L c)) (zOf Z (firstRow L c)) acc) $$ [HR Hzb]
  · isplitl [HR]; · iexact HR
    iexact Hzb
  iintro ⟨HR, Hzb⟩
  rw [accFrom_congr (dif := locDif (rowsOf Tb I (firstRow L c)) (zOf Z (firstRow L c))) acc 256 fun r j hr hj => locDif_eq Tb Z I (firstRow L c) r j hr hj]
  -- the copy out
  iapply (o_run d L c _ Q (moved (rowsOf Tb I (firstRow L c)) (zOf Z (firstRow L c)) 256) g (outOf Tb Z I) (moved_out L Tb Z I c) O W₀ hO) $$ [Ho Hzb Hout HO]
  · isplitr; · iexact Hlv
    isplitl [Ho]; · iexact Ho
    isplitl [Hzb]; · iexact Hzb
    isplitl [Hout]; · iexact Hout
    unfold owesFrom
    iexists insert (SemLoc.dma cc1_scratch4.sem, default) (insert (SemLoc.dma cc1_scratch4.sem, default) W)
    isplitr
    · ipureintro
      rintro p hp
      rcases Finset.mem_insert.1 hp with rfl | hp
      · exact Or.inr rfl
      rcases Finset.mem_insert.1 hp with rfl | hp
      · exact Or.inr rfl
      · exact hW p hp
    · iexact HO
  iintro ⟨Ho, Hzb, Hout, HO⟩
  -- everything back
  ihave Ht0 := (Entails.of_eq (show (tAll.view.loc (thr d L) ↦[tAll.view.set]{qOf q 0} Tb : sProp 𝕄) = (tV.view.loc (thr d L) ↦{q.left} Tb) from by rw [tAll_set]; rfl)) $$ Ht0
  ihave Ht1 := (Entails.of_eq (show (tAll.view.loc (thr d L) ↦[tAll.view.set]{qOf q 1} Tb : sProp 𝕄) = (tV.view.loc (thr d L) ↦{q.right} Tb) from by rw [tAll_set]; rfl)) $$ Ht1
  ihave Ht := (pointsTo_share (PosShare.mem_left_op_right q)).2 $$ [Ht0 Ht1]; · isplitl [Ht0] <;> iassumption
  ihave Hix0 := (lists_join d L c 0 fullShare.left (listsOf L I)) $$ [Hl0 Hr0]
  · isplitl [Hl0]; · iexact Hl0
    iexact Hr0
  ihave Hix1 := (lists_join d L c 1 fullShare.right (listsOf L I)) $$ [Hl1 Hr1]
  · isplitl [Hl1]; · iexact Hl1
    iexact Hr1
  ihave Hix := (pointsTo_share (PosShare.mem_left_op_right fullShare)).2 $$ [Hix0 Hix1]; · isplitl [Hix0] <;> iassumption
  iapply Hk $$ [Ht Hix Hz HR Hzb Ho Hs Hin Hout HO]
  isplitl [Ht]; · iexact Ht
  isplitl [Hix]; · iexact Hix
  isplitl [Hz]; · iexact Hz
  isplitl [HR]; · iexists _; iexact HR
  isplitl [Hzb]; · iexists _; iexact Hzb
  isplitl [Ho]; · iexact Ho
  isplitl [Hs]; · iexact Hs
  isplitl [Hin]; · iexact Hin
  isplitl [Hout]; · iexact Hout
  unfold owesFrom
  iexact HO

end Cert.Proof

end
-- ==== Proof.Deal.lean ====
/-
  How the launch deals its arrays: a read-only array by shares, the others by blocks of rows — to a SparseCore its
  tiles' blocks, to a tile its block, to a chunk its part of that.
-/
module

public import proofs.«01_k».proof.Proof.Gathers

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

section Deal

omit [FloatOps F]

/-- Piece `i` of a share cut into `n + 1`. -/
def shareOf : ℕ → PosShare TreeShare → ℕ → PosShare TreeShare
  | 0, q, _ => q
  | _ + 1, q, 0 => q.left
  | n + 1, q, i + 1 => shareOf n q.right i

/-- A `bigSep` over `n + 1` members is the first and the rest. -/
theorem bigSep_first {n : ℕ} (Φ : Fin (n + 1) → sProp 𝕄) :
    bigSep Finset.univ Φ = iprop(Φ 0 ∗ bigSep Finset.univ fun i : Fin n => Φ i.succ) := by
  rw [Fin.univ_succ, Finset.cons_eq_insert, SparseCore.bigSep_insert' (by simp [Fin.succ_ne_zero]), bigSep_map]
  rfl

/-- A points-to at a share is its pieces'. -/
theorem pointsTo_shares {ℓ : Loc nD τ sig} (I : Finset (Idx ℓ)) (f : Buf (Elt F) ℓ) : ∀ (n : ℕ) (q : PosShare TreeShare),
    (ℓ ↦[I]{q} f : sProp 𝕄) = bigSep Finset.univ fun i : Fin (n + 1) => ℓ ↦[I]{shareOf n q i.val} f
  | 0, q => (bigSep_univ_of_subsingleton (0 : Fin 1) (Φ := fun i : Fin 1 => (ℓ ↦[I]{shareOf 0 q i.val} f : sProp 𝕄))).symm
  | n + 1, q => by
    rw [bigSep_first, GatherBatch.eq_of_entails (pointsTo_share (PosShare.mem_left_op_right q)).1 (pointsTo_share (PosShare.mem_left_op_right q)).2,
      pointsTo_shares I f n q.right]
    rfl

/-- Elements that `part` sorts into the sets `T`: the points-to is theirs together. -/
theorem pointsTo_parts {ℓ : Loc nD τ sig} {ι : Type} [Fintype ι] (S' : Finset (Idx ℓ)) (T' : ι → Finset (Idx ℓ)) (part : Idx ℓ → ι)
    (h : ∀ i x, x ∈ T' i ↔ x ∈ S' ∧ part x = i) (q : PosShare TreeShare) (f : Buf (Elt F) ℓ) :
    (ℓ ↦[S']{q} f : sProp 𝕄) = bigSep Finset.univ fun i => ℓ ↦[T' i]{q} f := by
  classical
  rw [← pointsTo_biUnion Finset.univ (ℓ := ℓ) T' fun i _ j _ hij => Finset.disjoint_left.2 fun x hi hj => hij (((h i x).1 hi).2.symm.trans ((h j x).1 hj).2)]
  congr 1
  ext x
  rw [Finset.mem_biUnion]
  constructor
  · intro hx; exact ⟨part x, Finset.mem_univ _, (h _ x).2 ⟨hx, rfl⟩⟩
  · rintro ⟨i, -, hi⟩; exact ((h i x).1 hi).1

section Rows
variable {ℓ : Loc nD τ sig} (row : Idx ℓ → ℕ) (b : ℕ)

/-- The rows of the `w`-th block of `b`. -/
def blockOf (w : ℕ) : Finset (Idx ℓ) := Finset.univ.filter fun x => row x / b = w
/-- The rows of the blocks of SparseCore `c`. -/
def coreOf (c : ℕ) : Finset (Idx ℓ) := Finset.univ.filter fun x => row x / b % 2 = c

theorem mem_blockOf {w : ℕ} {x : Idx ℓ} : x ∈ blockOf row b w ↔ row x / b = w :=
  Finset.mem_filter.trans (and_iff_right (Finset.mem_univ x))
theorem mem_coreOf {c : ℕ} {x : Idx ℓ} : x ∈ coreOf row b c ↔ row x / b % 2 = c :=
  Finset.mem_filter.trans (and_iff_right (Finset.mem_univ x))

/-- Both SparseCores' rows are all. -/
theorem deal_cores (q : PosShare TreeShare) (f : Buf (Elt F) ℓ) :
    (ℓ ↦{q} f : sProp 𝕄) = bigSep Finset.univ fun c : Fin 2 => ℓ ↦[coreOf row b c.val]{q} f := by
  refine pointsTo_parts Finset.univ (fun c : Fin 2 => coreOf row b c.val) (fun x => ⟨row x / b % 2, Nat.mod_lt _ (by decide)⟩) (fun i x => ?_) q f
  rw [mem_coreOf]
  exact ⟨fun e => ⟨Finset.mem_univ x, Fin.ext e⟩, fun e => congrArg Fin.val e.2⟩

/-- A SparseCore's rows are its sixteen tiles' blocks. -/
theorem deal_tiles (hr : ∀ x, row x / b < 32) (c : Fin 2) (q : PosShare TreeShare) (f : Buf (Elt F) ℓ) :
    (ℓ ↦[coreOf row b c.val]{q} f : sProp 𝕄) = bigSep Finset.univ fun i : Fin 16 => ℓ ↦[blockOf row b (2 * i.val + c.val)]{q} f := by
  refine pointsTo_parts _ (fun i : Fin 16 => blockOf row b (2 * i.val + c.val)) (fun x => ⟨row x / b / 2, by have := hr x; omega⟩) (fun i x => ?_) q f
  rw [mem_blockOf, mem_coreOf, Fin.ext_iff]
  have := c.isLt
  show _ ↔ _ ∧ row x / b / 2 = i.val
  omega

/-- A tile's block is its eight chunks' rows. -/
theorem deal_chunks (w : ℕ) (q : PosShare TreeShare) (f : Buf (Elt F) ℓ) :
    (ℓ ↦[blockOf row 2048 w]{q} f : sProp 𝕄) = bigSep Finset.univ fun k : Fin 8 => ℓ ↦[blockOf row 256 (8 * w + k.val)]{q} f := by
  refine pointsTo_parts _ (fun k : Fin 8 => blockOf row 256 (8 * w + k.val)) (fun x => ⟨row x / 256 % 8, Nat.mod_lt _ (by decide)⟩) (fun i x => ?_) q f
  rw [mem_blockOf, mem_blockOf, Fin.ext_iff]
  have := i.isLt
  show _ ↔ _ ∧ row x / 256 % 8 = i.val
  omega

end Rows

end Deal

/-! ## The tile's blocks as its program names them -/

section Blocks
variable (d : Dev nD) (L : grid1.Coords)

/-- The row of an element of the input. -/
abbrev zRow (x : S65536x32.Idx) : ℕ := (x 0).val
/-- The row of an element of the indices. -/
abbrev iRow (x : S512x128.Idx) : ℕ := (x 0).val
/-- The row of an element of the partial sums. -/
abbrev qRow (x : S32x16.Idx) : ℕ := (x 0).val

omit [FloatOps F] in
theorem chunk_set (c : Fin 8) (x : S65536x32.Idx) :
    x ∈ (Rect.unit (s := S65536x32) (k1_off2 L (BitVec.ofNat 32 (256 * c.val))) S256x32.size (k1_off2_inb L c)).set ↔ zRow x / 256 = 8 * tileNo L + c.val := by
  have h1 : (x 1).val < 32 := (x 1).isLt
  have e : k1_off2 L (BitVec.ofNat 32 (256 * c.val)) = ![256 * (8 * tileNo L + c.val), 0] := by
    rw [k1_off2_eq]; unfold tileNo; congr 1; omega
  rw [Rect.mem_set_unit, e]
  constructor
  · intro H
    have H0 : 256 * (8 * tileNo L + c.val) ≤ (x 0).val ∧ (x 0).val < 256 * (8 * tileNo L + c.val) + 256 := H 0
    show (x 0).val / 256 = _
    omega
  · intro H a
    have H : (x 0).val / 256 = 8 * tileNo L + c.val := H
    match a with
    | 0 => show 256 * (8 * tileNo L + c.val) ≤ (x 0).val ∧ (x 0).val < 256 * (8 * tileNo L + c.val) + 256; omega
    | 1 => exact ⟨Nat.zero_le _, by show (x 1).val < 0 + 32; omega⟩

omit [FloatOps F] in
theorem zRows_set (c : Fin 8) : (zRows L c).view.set = blockOf (ℓ := zV.view.loc (thr d L)) zRow 256 (8 * tileNo L + c.val) := by
  rw [show (zRows L c).view.set = _ from View.set_slice_whole main_v0_scv _]
  ext x
  exact (chunk_set L c x).trans (mem_blockOf (ℓ := zV.view.loc (thr d L)) zRow 256).symm

omit [FloatOps F] in
theorem oRows_set (c : Fin 8) : (oRows L c).view.set = blockOf (ℓ := oV.view.loc (thr d L)) zRow 256 (8 * tileNo L + c.val) := by
  rw [show (oRows L c).view.set = _ from View.set_slice_whole main_v12_0_scv _]
  ext x
  exact (chunk_set L c x).trans (mem_blockOf (ℓ := oV.view.loc (thr d L)) zRow 256).symm

theorem k1_off35_eq : ∀ i : grid1.Coords, k1_off35 i = ![2 * (i 1).val + (i 0).val, 0] := by decide +kernel

omit [FloatOps F] in
theorem iRows_set : (iRows L).view.set = blockOf (ℓ := iV.view.loc (thr d L)) iRow 16 (tileNo L) := by
  rw [show (iRows L).view.set = _ from View.set_slice_whole main_v11_scv _]
  ext x
  have h1 : (x 1).val < 128 := (x 1).isLt
  refine Iff.trans ?_ (mem_blockOf _ _).symm
  rw [Rect.mem_set_unit, k1_off1_eq]
  constructor
  · intro H
    have H0 : 32 * (L 1).val + 16 * (L 0).val ≤ (x 0).val ∧ (x 0).val < 32 * (L 1).val + 16 * (L 0).val + 16 := H 0
    show (x 0).val / 16 = 2 * (L 1).val + (L 0).val
    omega
  · intro H a
    have H : (x 0).val / 16 = 2 * (L 1).val + (L 0).val := H
    match a with
    | 0 => show 32 * (L 1).val + 16 * (L 0).val ≤ (x 0).val ∧ (x 0).val < 32 * (L 1).val + 16 * (L 0).val + 16; omega
    | 1 => exact ⟨Nat.zero_le _, by show (x 1).val < 0 + 128; omega⟩

omit [FloatOps F] in
theorem pRow_set : (pRow L).view.set = blockOf (ℓ := pV.view.loc (thr d L)) qRow 1 (tileNo L) := by
  show ((pV.view.slice (Rect.unit (s := S32x16) (k1_off35 L) S1x16.size (k1_off35_inb L))).reshape S16 squeezes_S1x16_S16.numel_eq).set = _
  rw [View.set_reshape, View.set_slice_whole main_v12_1_scv _]
  ext x
  have h1 : (x 1).val < 16 := (x 1).isLt
  refine Iff.trans ?_ (mem_blockOf _ _).symm
  rw [Rect.mem_set_unit, k1_off35_eq, Nat.div_one]
  constructor
  · intro H
    have H0 : 2 * (L 1).val + (L 0).val ≤ (x 0).val ∧ (x 0).val < 2 * (L 1).val + (L 0).val + 1 := H 0
    show (x 0).val = 2 * (L 1).val + (L 0).val
    omega
  · intro H a
    have H : (x 0).val = 2 * (L 1).val + (L 0).val := H
    match a with
    | 0 => show 2 * (L 1).val + (L 0).val ≤ (x 0).val ∧ (x 0).val < 2 * (L 1).val + (L 0).val + 1; omega
    | 1 => exact ⟨Nat.zero_le _, by show (x 1).val < 0 + 16; omega⟩

omit [FloatOps F] in
/-- What the fetch reads. -/
theorem iRows_read (I : IVec S512x128 32) : (iRows L).view.read (Elt F) I = listsOf L I := by
  have hL := tileNo_lt L
  funext x
  have hx0 : (x 0).val < 16 := (x 0).isLt
  have hx1 : (x 1).val < 128 := (x 1).isLt
  have e : ∀ a, k1_off1 L a = (![16 * tileNo L, 0] : Fin 2 → ℕ) a := by
    intro a; rw [k1_off1_eq]; unfold tileNo
    match a with
    | 0 => show 32 * (L 1).val + 16 * (L 0).val = 16 * (2 * (L 1).val + (L 0).val); omega
    | 1 => rfl
  refine congrArg I (funext fun a => Fin.ext ?_)
  show k1_off1 L a + 1 * (x a).val = _
  rw [e]
  match a with
  | 0 =>
    show 16 * tileNo L + 1 * (x 0).val = (2048 * tileNo L + 128 * (x 0).val + (x 1).val) / 128 % 512
    omega
  | 1 =>
    show 0 + 1 * (x 1).val = (2048 * tileNo L + 128 * (x 0).val + (x 1).val) % 128
    omega

omit [FloatOps F] in
/-- Element `x` of the tile's row of partial sums. -/
theorem pRow_emb (x : S16.Idx) : (pRow L).view.emb x = (ix2 ⟨tileNo L, tileNo_lt L⟩ (x 0) : S32x16.Idx) := by
  have he : ∀ hn : S16.numel = S1x16.numel, Shape.reshapeEquiv hn x = (ix2 (0 : Fin 1) (x 0) : S1x16.Idx) := by
    intro hn
    apply Shape.reshapeEquiv_eq_of_rowMajor
    rw [Shape.rowMajor_val_two, Shape.rowMajor_val_one]
    show 0 * 16 + (x 0).val = (x 0).val
    omega
  show (Rect.unit (s := S32x16) (k1_off35 L) S1x16.size (k1_off35_inb L)).emb (Shape.reshapeEquiv _ x) = _
  rw [he]
  funext a
  apply Fin.ext
  have e := congrFun (k1_off35_eq L) a
  match a with
  | 0 => exact e
  | 1 =>
    show k1_off35 L 1 + 1 * (x 0).val = (x 0).val
    rw [show k1_off35 L 1 = 0 from e]; omega

end Blocks

end Cert.Proof

end
-- ==== Proof.Tile.lean ====
/-
  A whole tile: the fetch of its index lists, eight chunks, its partial sums stored and copied out.
-/
module

public import proofs.«01_k».proof.Proof.Deal

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

variable (d : Dev nD) (L : grid1.Coords)

/-! ## The tile's own storage -/

/-- The semaphores that the tile's program uses. -/
def tileSems : Finset (DmaSem sig) :=
  {cc1_scratch4.sem, cc1_scoped0.sem, cc1_scoped17.sem, inSem 0, inSem 1, inSem 2, inSem 3, inSem 4, inSem 5, inSem 6, inSem 7,
    outSem 0, outSem 1, outSem 2, outSem 3, outSem 4, outSem 5, outSem 6, outSem 7}

/-- The scratch buffers that the tile's program uses. -/
def tileBufs : Finset (Ref sig .scVector) := {cc1_scratch0, cc1_scratch1, cc1_scratch2, cc1_scratch3}

/-- A semaphore of the tile at zero. -/
abbrev zeroSem (s : DmaSem sig) : sProp 𝕄 := semVal (thr d L, SemLoc.dma s) 0

omit [FloatOps F] in
theorem tileSems_split : (bigSep tileSems (zeroSem (F := F) d L))
    = iprop(zeroSem d L cc1_scratch4.sem ∗ zeroSem d L cc1_scoped0.sem ∗ zeroSem d L cc1_scoped17.sem
        ∗ (bigSep Finset.univ fun c : Fin 8 => zeroSem d L (inSem c)) ∗ (bigSep Finset.univ fun c : Fin 8 => zeroSem d L (outSem c))) := by
  have hin : Set.InjOn inSem (Finset.univ : Finset (Fin 8)) := by
    intro a _ b _; revert a b; decide
  have hout : Set.InjOn outSem (Finset.univ : Finset (Fin 8)) := by
    intro a _ b _; revert a b; decide
  have hI := bigSep_image_of_injOn hin (zeroSem (F := F) d L)
  have hO := bigSep_image_of_injOn hout (zeroSem (F := F) d L)
  rw [← hI, ← hO, show tileSems = insert cc1_scratch4.sem (insert cc1_scoped0.sem (insert cc1_scoped17.sem
      (Finset.univ.image inSem ∪ Finset.univ.image outSem))) by decide,
    SparseCore.bigSep_insert' (by decide), SparseCore.bigSep_insert' (by decide), SparseCore.bigSep_insert' (by decide)]
  rw [bigSep_union (by decide)]
  rfl

omit [FloatOps F] in
/-- A `bigSep` is that of the members a one-to-one naming reaches and that of the rest. -/
theorem bigSep_named {A B : Type} [DecidableEq A] [DecidableEq B] {big : Finset A} {names : Finset B} (nm : B → A)
    (one : Set.InjOn nm names) (among : ∀ b ∈ names, nm b ∈ big) (Φ : A → sProp 𝕄) :
    bigSep big Φ = iprop(bigSep names (fun b => Φ (nm b)) ∗ bigSep (big \ names.image nm) Φ) := by
  have sub : names.image nm ⊆ big := Finset.image_subset_iff.2 among
  rw [← bigSep_image_of_injOn one Φ]
  conv_lhs => rw [← Finset.union_sdiff_of_subset sub]
  rw [bigSep_union Finset.disjoint_sdiff]
  rfl

/-- The subcore's semaphores beyond those of the program. -/
def otherSems : sProp 𝕄 := bigSep (SparseCore.Cfg.ownCells (thr d L) \ tileSems.image fun s => ((thr d L, SemLoc.dma s) : GSem nD τ sig)) fun g => semVal g 0

omit [FloatOps F] in
theorem ownSems_tile : (SparseCore.Cfg.ownSems0 (thr d L) : sProp 𝕄) = iprop(bigSep tileSems (zeroSem d L) ∗ otherSems d L) := by
  unfold SparseCore.Cfg.ownSems0 otherSems
  refine bigSep_named (fun s => ((thr d L, SemLoc.dma s) : GSem nD τ sig)) ?_ ?_ _
  · intro a _ b _ e
    have e : SemLoc.dma a = SemLoc.dma b := congrArg Prod.snd e
    exact SemLoc.dma.inj e
  · have hs : ∀ s ∈ tileSems, (SemLoc.dma s : SemLoc sig).isScoped .scVector = true := by decide
    intro s hs'
    exact SparseCore.Cfg.mem_ownCells.2 ⟨rfl, hs s hs'⟩

/-- The subcore's buffers beyond those of the program. -/
def otherBufs : sProp 𝕄 := bigSep (SparseCore.Cfg.ownRefs (τ := τ) (sig := sig) (.scVector (cV L) (jV L)) \ tileBufs.image fun b => (Proc.scVector (cV L) (jV L)).devRef b)
  fun b => iprop(∃ f, ((d, b) : Loc nD τ sig) ↦{fullShare} f)

omit [FloatOps F] in
theorem ownBufs_tile : (SparseCore.Cfg.ownBufs (thr d L) : sProp 𝕄)
    = iprop(((∃ f, ixV.view.loc (thr d L) ↦{fullShare} f) ∗ (∃ f, rwV.view.loc (thr d L) ↦{fullShare} f)
        ∗ (∃ f, zbV.view.loc (thr d L) ↦{fullShare} f) ∗ (∃ f, acV.view.loc (thr d L) ↦{fullShare} f)) ∗ otherBufs d L) := by
  unfold SparseCore.Cfg.ownBufs otherBufs
  have h := bigSep_named (F := F) (big := SparseCore.Cfg.ownRefs (τ := τ) (sig := sig) (.scVector (cV L) (jV L))) (names := tileBufs)
    (fun b => (Proc.scVector (cV L) (jV L)).devRef b) (fun a _ b _ e => Proc.devRef_injective _ e)
    (fun b hb => by
      have hs : ∀ b ∈ tileBufs, ∀ (c : Fin τ.nSC) (i : Fin τ.nSub), ((Proc.scVector c i).devRef b).owner = Owner.proc (.scVector c i) := by
        intro b hb c i
        unfold tileBufs at hb
        simp only [Finset.mem_insert, Finset.mem_singleton] at hb
        rcases hb with rfl | rfl | rfl | rfl <;> rfl
      exact SparseCore.Cfg.mem_ownRefs_of_owner (hs b hb _ _))
    (fun b => (iprop(∃ f, ((d, b) : Loc nD τ sig) ↦{fullShare} f) : sProp 𝕄))
  refine h.trans ?_
  congr 1
  unfold tileBufs
  rw [SparseCore.bigSep_insert' (by decide), SparseCore.bigSep_insert' (by decide), SparseCore.bigSep_insert' (by decide), bigSep_singleton]

/-! ## The chunks in a row -/

variable (q : PosShare TreeShare) (Tb : Vec F S8200x128 .f32) (Z : Vec F S65536x32 .f32) (I : IVec S512x128 32)

/-- What every chunk uses and hands on. -/
def common (O : CellTallies nD τ sig (HIx 1)) (W₀ : Waits sig (HIx 1)) : sProp 𝕄 :=
  iprop((tV.view.loc (thr d L) ↦{q} Tb) ∗ (ixV.view.loc (thr d L) ↦{fullShare} (listsOf L I)) ∗ (∃ R, rwV.view.loc (thr d L) ↦{fullShare} R)
    ∗ (∃ f, zbV.view.loc (thr d L) ↦{fullShare} f) ∗ zeroSem d L cc1_scratch4.sem ∗ owesFrom d L O W₀)

/-- What chunk `c` alone uses: its rows of `z` and of the output, its two semaphores. -/
def piece (c : Fin 8) (g : Vec F S65536x32 .f32) : sProp 𝕄 :=
  iprop(((zRows L c).view.loc (thr d L) ↦[(zRows L c).view.set]{fullShare} Z) ∗ ((oRows L c).view.loc (thr d L) ↦[(oRows L c).view.set]{fullShare} g)
    ∗ zeroSem d L (inSem c) ∗ zeroSem d L (outSem c))

/-- The partial sums go on from one chunk to the next. -/
theorem accOf_next (c : Fin 8) : accFrom (fun n j => difAt Tb Z I (firstRow L c + n) j) (accOf Tb Z I (2048 * tileNo L) (256 * c.val)) 256
    = accOf Tb Z I (2048 * tileNo L) (256 * c.val + 256) := by
  unfold accOf
  rw [accFrom_add]
  refine accFrom_congr _ _ fun r j _ _ => ?_
  unfold firstRow
  rw [Nat.add_assoc]

/-- One chunk, from the partial sums of those before it. -/
theorem chunk_next {β : Type} (c : Fin 8) (kk : FVec F S16 .f32 → TileProg (F := F) L β) (Q : β → sProp 𝕄) (hI : ∀ r, (wordAt I r).toNat < 8200)
    (O : CellTallies nD τ sig (HIx 1)) (W₀ : Waits sig (HIx 1)) (hO : ∀ g, O g none = 0) (g : Vec F S65536x32 .f32) :
    iprop(levAts (K (F := F)).L (K (F := F)).lev ∗ common d L q Tb I O W₀ ∗ piece d L Z c g)
      ⊢ iprop((iprop(common d L q Tb I O W₀ ∗ piece d L Z c (outOf Tb Z I))
            -∗ wp frame (wpE (defs₀ (F := F)) 𝒱₀ (thr d L) none) Set.univ (kk (accOf Tb Z I (2048 * tileNo L) (256 * c.val + 256))) Q)
          -∗ wp frame (wpE (defs₀ (F := F)) 𝒱₀ (thr d L) none) Set.univ (chunk L c (accOf Tb Z I (2048 * tileNo L) (256 * c.val)) >>= kk) Q) := by
  unfold common piece
  iintro ⟨#Hlv, ⟨Ht, Hix, HR, Hzb, Hs, HO⟩, Hz, Ho, Hin, Hout⟩ Hk
  iapply (chunk_run d L c _ kk Q q Tb Z I hI O W₀ hO) $$ [Ht Hix HR Hzb Hs HO Hz Ho Hin Hout]
  · isplitr; · iexact Hlv
    isplitl [Ht]; · iexact Ht
    isplitl [Hix]; · iexact Hix
    isplitl [Hz]; · iexact Hz
    isplitl [HR]; · iexact HR
    isplitl [Hzb]; · iexact Hzb
    isplitl [Ho]; · iexists g; iexact Ho
    isplitl [Hs]; · iexact Hs
    isplitl [Hin]; · iexact Hin
    isplitl [Hout]; · iexact Hout
    iexact HO
  iintro ⟨Ht, Hix, Hz, HR, Hzb, Ho, Hs, Hin, Hout, HO⟩
  rw [accOf_next]
  iapply Hk $$ [Ht Hix HR Hzb Hs HO Hz Ho Hin Hout]
  isplitl [Ht Hix HR Hzb Hs HO]
  · isplitl [Ht]; · iexact Ht
    isplitl [Hix]; · iexact Hix
    isplitl [HR]; · iexact HR
    isplitl [Hzb]; · iexact Hzb
    isplitl [Hs]; · iexact Hs
    iexact HO
  isplitl [Hz]; · iexact Hz
  isplitl [Ho]; · iexact Ho
  isplitl [Hin]; · iexact Hin
  iexact Hout

/-- The eight chunks, before a program. -/
def chunks {β : Type} (kk : FVec F S16 .f32 → TileProg (F := F) L β) : TileProg (F := F) L β :=
  chunk L 0 (k1_pay2 (F := F)) >>= fun a => chunk L 1 a >>= fun a => chunk L 2 a >>= fun a => chunk L 3 a >>= fun a =>
    chunk L 4 a >>= fun a => chunk L 5 a >>= fun a => chunk L 6 a >>= fun a => chunk L 7 a >>= kk

omit [FloatOps F] in
/-- Eight members, one by one. -/
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_first, bigSep_first, bigSep_first, bigSep_first, bigSep_first, bigSep_first, bigSep_first,
    bigSep_univ_of_subsingleton (0 : Fin 1)]
  rfl

/-- All chunks: the output's rows written, the tile's partial sums handed on. -/
theorem chunks_run {β : Type} (kk : FVec F S16 .f32 → TileProg (F := F) L β) (Q : β → sProp 𝕄) (hI : ∀ r, (wordAt I r).toNat < 8200)
    (O : CellTallies nD τ sig (HIx 1)) (W₀ : Waits sig (HIx 1)) (hO : ∀ g, O g none = 0) (g : Vec F S65536x32 .f32) :
    iprop(levAts (K (F := F)).L (K (F := F)).lev ∗ common d L q Tb I O W₀ ∗ bigSep Finset.univ fun c => piece d L Z c g)
      ⊢ iprop((iprop(common d L q Tb I O W₀ ∗ bigSep Finset.univ fun c => piece d L Z c (outOf Tb Z I))
            -∗ wp frame (wpE (defs₀ (F := F)) 𝒱₀ (thr d L) none) Set.univ (kk (accOf Tb Z I (2048 * tileNo L) 2048)) Q)
          -∗ wp frame (wpE (defs₀ (F := F)) 𝒱₀ (thr d L) none) Set.univ (chunks L kk) Q) := by
  rw [bigSep_eight, bigSep_eight]
  unfold chunks
  iintro ⟨#Hlv, Hc, H0, H1, H2, H3, H4, H5, H6, H7⟩ Hk
  iapply (chunk_next d L q Tb Z I 0 _ Q hI O W₀ hO g) $$ [Hc H0]
  · isplitr; · iexact Hlv
    isplitl [Hc]; · iexact Hc
    iexact H0
  iintro ⟨Hc, H0⟩
  iapply (chunk_next d L q Tb Z I 1 _ Q hI O W₀ hO g) $$ [Hc H1]
  · isplitr; · iexact Hlv
    isplitl [Hc]; · iexact Hc
    iexact H1
  iintro ⟨Hc, H1⟩
  iapply (chunk_next d L q Tb Z I 2 _ Q hI O W₀ hO g) $$ [Hc H2]
  · isplitr; · iexact Hlv
    isplitl [Hc]; · iexact Hc
    iexact H2
  iintro ⟨Hc, H2⟩
  iapply (chunk_next d L q Tb Z I 3 _ Q hI O W₀ hO g) $$ [Hc H3]
  · isplitr; · iexact Hlv
    isplitl [Hc]; · iexact Hc
    iexact H3
  iintro ⟨Hc, H3⟩
  iapply (chunk_next d L q Tb Z I 4 _ Q hI O W₀ hO g) $$ [Hc H4]
  · isplitr; · iexact Hlv
    isplitl [Hc]; · iexact Hc
    iexact H4
  iintro ⟨Hc, H4⟩
  iapply (chunk_next d L q Tb Z I 5 _ Q hI O W₀ hO g) $$ [Hc H5]
  · isplitr; · iexact Hlv
    isplitl [Hc]; · iexact Hc
    iexact H5
  iintro ⟨Hc, H5⟩
  iapply (chunk_next d L q Tb Z I 6 _ Q hI O W₀ hO g) $$ [Hc H6]
  · isplitr; · iexact Hlv
    isplitl [Hc]; · iexact Hc
    iexact H6
  iintro ⟨Hc, H6⟩
  iapply (chunk_next d L q Tb Z I 7 _ Q hI O W₀ hO g) $$ [Hc H7]
  · isplitr; · iexact Hlv
    isplitl [Hc]; · iexact Hc
    iexact H7
  iintro ⟨Hc, H7⟩
  iapply Hk $$ [Hc H0 H1 H2 H3 H4 H5 H6 H7]
  isplitl [Hc]; · iexact Hc
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The fetch and the last store -/

theorem fetch_bind {β : Type} (kk : PUnit → TileProg (F := F) L β) :
    fetch L >>= kk = (Prog.lift (.enqueueDma (iRows L) (.here ixV) (.dma cc1_scoped0.sem) (View.wordExact_bits rfl) (Memref.isWhole_whole _).wordExact ⟨Or.inl rfl, trivial⟩) >>= fun _ =>
      Prog.lift (.waitDma2 cc1_scoped0.sem (iRows L) ixV (View.wordExact_bits rfl) (Memref.isWhole_whole _).wordExact) >>= kk) := by
  unfold fetch
  simp only [bind_assoc]

theorem finish_bind {β : Type} (acc : FVec F S16 .f32) (kk : PUnit → TileProg (F := F) L β) :
    finish L acc >>= kk = (Prog.lift (.load acV (Rect.unit (s := S16) ![0] S16.size inb_S16_S16_0).toLoadRect (View.loadsAt_vmem h_S16)) >>= fun _ =>
      Prog.lift (.store acV (Rect.unit (s := S16) ![0] S16.size inb_S16_S16_0) (k1_pay1 acc) Finset.univ (View.stores_vmem_bits_univ h_S16 rfl) (.inl rfl)) >>= fun _ =>
      Prog.lift (.enqueueDma acV (.here (pRow L)) (.dma cc1_scoped17.sem) (Memref.isWhole_whole _).wordExact ((View.wordExact_bits rfl).reshape _ _) ⟨Or.inl rfl, trivial⟩) >>= fun _ =>
      Prog.lift (.waitDma2 cc1_scoped17.sem acV (pRow L) (Memref.isWhole_whole _).wordExact ((View.wordExact_bits rfl).reshape _ _)) >>= kk) := by
  unfold finish
  simp only [bind_assoc]
  rfl

/-- The index lists, fetched. -/
theorem fetch_run {β : Type} (kk : PUnit → TileProg (F := F) L β) (Q : β → sProp 𝕄) (f : IVec S16x128 32)
    (O : CellTallies nD τ sig (HIx 1)) (W₀ : Waits sig (HIx 1)) (hO : ∀ g, O g none = 0) :
    iprop(levAts (K (F := F)).L (K (F := F)).lev ∗ ((iRows L).view.loc (V d (cV L) (jV L)) ↦[(iRows L).view.set]{fullShare} I) ∗ (ixV.view.loc (V d (cV L) (jV L)) ↦{fullShare} f)
        ∗ semVal (V d (cV L) (jV L), SemLoc.dma cc1_scoped0.sem) 0 ∗ owesFrom d L O W₀)
      ⊢ iprop((iprop(((iRows L).view.loc (V d (cV L) (jV L)) ↦[(iRows L).view.set]{fullShare} I) ∗ (ixV.view.loc (V d (cV L) (jV L)) ↦{fullShare} (listsOf L I))
              ∗ semVal (V d (cV L) (jV L), SemLoc.dma cc1_scoped0.sem) 0 ∗ owesFrom d L O W₀)
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (fetch L >>= kk) Q) := by
  rw [fetch_bind]
  unfold owesFrom
  iintro ⟨#Hlv, Hz, Hzb, Hs, %W, %hW, HO⟩ Hk
  ihave Hmw := (show levAts (K (F := F)).L (K (F := F)).lev ⊢ Transfers.MayWaits (V d (cV L) (jV L)) (default : HIx 1) O
      from (K (F := F)).mayWaits_none (thr := V d (cV L) (jV L)) hO) $$ Hlv
  sl_exec
  sl_unfold_run_names
  rw [show View.write (Elt F) ixV.view f (View.read (Elt F) (iRows L).view I) Finset.univ = listsOf L I from
    (View.write_whole_univ (Val := Elt F) cc1_scratch0 _ _).trans (iRows_read L I)]
  iapply Hk $$ [Hz Hzb Hs HO]
  isplitl [Hz]; · iexact Hz
  isplitl [Hzb]; · iexact Hzb
  isplitl [Hs]; · iexact Hs
  iexists insert (SemLoc.dma cc1_scoped0.sem, default) W
  isplitr
  · ipureintro
    rintro p hp
    rcases Finset.mem_insert.1 hp with rfl | hp
    · exact Or.inr rfl
    · exact hW p hp
  · iexact HO

/-- What the copy out of the partial sums reads. -/
theorem acV_read (f a : Vec F S16 .f32) (y : S16.Idx) :
    View.read (Elt F) acV.view (acV.view.writes (Elt F) f [⟨Rect.unit (s := S16) ![0] S16.size inb_S16_S16_0, k1_pay1 a⟩]) y = a y := by
  have he : ∀ x : S16.Idx, (Rect.unit (s := S16) ![0] S16.size inb_S16_S16_0).emb x = x := by
    intro x
    funext k
    apply Fin.ext
    match k with
    | 0 => show 0 + 1 * (x 0).val = (x 0).val; omega
  refine View.read_writes_apply_of_pieces acV.view f (fun y => a y) _ (fun p hp x => ?_) y ⟨_, List.mem_singleton_self _, ?_⟩
  · obtain rfl := List.mem_singleton.1 hp
    show shapeCast S16 a shapeCasts_S16_S16 x = a ((Rect.unit (s := S16) ![0] S16.size inb_S16_S16_0).emb x)
    rw [he]
    exact congrArg a (Shape.reshapeEquiv_self _ x)
  · rw [Rect.mem_set_unit]
    intro k
    match k with
    | 0 => exact ⟨Nat.zero_le _, by have := (y 0).isLt; show (y 0).val < 0 + 16; simp at this; omega⟩

/-- The partial sums, stored and copied out. -/
theorem finish_run {β : Type} (kk : PUnit → TileProg (F := F) L β) (Q : β → sProp 𝕄) (f : Vec F S16 .f32) (g : Vec F S32x16 .f32)
    (O : CellTallies nD τ sig (HIx 1)) (W₀ : Waits sig (HIx 1)) (hO : ∀ g, O g none = 0) :
    iprop(levAts (K (F := F)).L (K (F := F)).lev ∗ ((pRow L).view.loc (V d (cV L) (jV L)) ↦[(pRow L).view.set]{fullShare} g) ∗ (acV.view.loc (V d (cV L) (jV L)) ↦{fullShare} f)
        ∗ semVal (V d (cV L) (jV L), SemLoc.dma cc1_scoped17.sem) 0 ∗ owesFrom d L O W₀)
      ⊢ iprop((iprop(((pRow L).view.loc (V d (cV L) (jV L)) ↦[(pRow L).view.set]{fullShare} (partOf Tb Z I)) ∗ (∃ f, acV.view.loc (V d (cV L) (jV L)) ↦{fullShare} f)
              ∗ semVal (V d (cV L) (jV L), SemLoc.dma cc1_scoped17.sem) 0 ∗ owesFrom d L O W₀)
            -∗ wp frame (wpE (defs₀ (F := F)) 𝒱₀ (V d (cV L) (jV L)) none) Set.univ (kk ⟨⟩) Q)
          -∗ wp frame (wpE (defs₀ (F := F)) 𝒱₀ (V d (cV L) (jV L)) none) Set.univ (finish L (accOf Tb Z I (2048 * tileNo L) 2048) >>= kk) Q) := by
  rw [finish_bind]
  unfold owesFrom
  iintro ⟨#Hlv, Hz, Hzb, Hs, %W, %hW, HO⟩ Hk
  ihave Hmw := (show levAts (K (F := F)).L (K (F := F)).lev ⊢ Transfers.MayWaits (V d (cV L) (jV L)) (default : HIx 1) O
      from (K (F := F)).mayWaits_none (thr := V d (cV L) (jV L)) hO) $$ Hlv
  sl_exec
  sl_unfold_run_names
  iapply Hk $$ [Hz Hzb Hs HO]
  isplitl [Hz]
  · iapply (Entails.of_eq (pointsTo_congr ?_)) $$ Hz
    intro i hi
    obtain ⟨x, -, rfl⟩ := Finset.mem_map.1 hi
    have h := View.read_writes_apply_of_pieces (pRow L).view g (fun y => accOf Tb Z I (2048 * tileNo L) 2048 y)
      [⟨Rect.whole S16, ReadAs.same.apply (View.read (Elt F) acV.view (acV.view.writes (Elt F) f
        [⟨Rect.unit (s := S16) ![0] S16.size inb_S16_S16_0, k1_pay1 (accOf Tb Z I (2048 * tileNo L) 2048)⟩]))⟩]
      (fun p hp y => by
        obtain rfl := List.mem_singleton.1 hp
        rw [Rect.emb_whole_apply S16 y]
        exact acV_read f (accOf Tb Z I (2048 * tileNo L) 2048) y) x
      ⟨_, List.mem_singleton_self _, by rw [Rect.set_whole]; exact Finset.mem_univ _⟩
    refine h.trans ?_
    rw [pRow_emb]
    unfold partOf
    exact congrArg (accOf Tb Z I (2048 * tileNo L) 2048) (eq_ix1 x)
  isplitl [Hzb]; · iexists _; iexact Hzb
  isplitl [Hs]; · iexact Hs
  iexists insert (SemLoc.dma cc1_scoped17.sem, default) W
  isplitr
  · ipureintro
    rintro p hp
    rcases Finset.mem_insert.1 hp with rfl | hp
    · exact Or.inr rfl
    · exact hW p hp
  · iexact HO

/-! ## The tile -/

/-- A tile is its fetch, its chunks and its last store. -/
theorem tile_eq : tile (F := F) L = fetch L >>= fun _ => chunks L fun a => finish L a >>= pure := by
  unfold tile chunks
  simp only [bind_pure]

/-- What a tile holds of the launch's arrays: a share of the table, its blocks of the others. -/
def tileHolds (g : Vec F S65536x32 .f32) (p : Vec F S32x16 .f32) : sProp 𝕄 :=
  iprop((tV.view.loc (thr d L) ↦{q} Tb) ∗ (zV.view.loc (thr d L) ↦[blockOf zRow 2048 (tileNo L)]{fullShare} Z)
    ∗ (iV.view.loc (thr d L) ↦[blockOf iRow 16 (tileNo L)]{fullShare} I) ∗ (oV.view.loc (thr d L) ↦[blockOf zRow 2048 (tileNo L)]{fullShare} g)
    ∗ (pV.view.loc (thr d L) ↦[blockOf qRow 1 (tileNo L)]{fullShare} p))

/-- A tile's blocks of `z` and of the output, with the semaphores, are its chunks' pieces. -/
theorem pieces_eq (g : Vec F S65536x32 .f32) : (bigSep Finset.univ fun c => piece d L Z c g)
    = iprop((zV.view.loc (thr d L) ↦[blockOf zRow 2048 (tileNo L)]{fullShare} Z) ∗ (oV.view.loc (thr d L) ↦[blockOf zRow 2048 (tileNo L)]{fullShare} g)
        ∗ (bigSep Finset.univ fun c : Fin 8 => zeroSem d L (inSem c)) ∗ (bigSep Finset.univ fun c : Fin 8 => zeroSem d L (outSem c))) := by
  unfold piece
  rw [bigSep_sep', bigSep_sep', bigSep_sep']
  have hz : (bigSep Finset.univ fun c : Fin 8 => ((zRows L c).view.loc (thr d L) ↦[(zRows L c).view.set]{fullShare} Z : sProp 𝕄))
      = (zV.view.loc (thr d L) ↦[blockOf zRow 2048 (tileNo L)]{fullShare} Z) :=
    (bigSep_congr fun c _ => by rw [zRows_set d L c]).trans (deal_chunks (ℓ := zV.view.loc (thr d L)) zRow (tileNo L) fullShare Z).symm
  have ho : (bigSep Finset.univ fun c : Fin 8 => ((oRows L c).view.loc (thr d L) ↦[(oRows L c).view.set]{fullShare} g : sProp 𝕄))
      = (oV.view.loc (thr d L) ↦[blockOf zRow 2048 (tileNo L)]{fullShare} g) :=
    (bigSep_congr fun c _ => by rw [oRows_set d L c]).trans (deal_chunks (ℓ := oV.view.loc (thr d L)) zRow (tileNo L) fullShare g).symm
  exact congrArg₂ BI.sep hz (congrArg₂ BI.sep ho rfl)

set_option maxHeartbeats 1000000 in
set_option maxRecDepth 65536 in
/-- The tile on a vector subcore: its rows of the output and its partial sums are written. -/
theorem tile_body (hI : ∀ r, (wordAt I r).toNat < 8200) (g : Vec F S65536x32 .f32) (p : Vec F S32x16 .f32)
    (O : CellTallies nD τ sig (HIx 1)) (W : Waits sig (HIx 1)) (hO : ∀ g, O g none = 0) :
    iprop(levAts (K (F := F)).L (K (F := F)).lev ∗ emp ∗ tileHolds d L q Tb Z I g p
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (body L)
          fun _ => iprop(tileHolds d L q Tb Z I (outOf Tb Z I) (partOf Tb Z I)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq, tile_eq, (K (F := F)).scopedBufs_V scFacts d (cV L) (jV L), SparseCore.Cfg.scopedSems0_V (Val := Elt F) d (cV L) (jV L),
    ownSems_tile, ownBufs_tile, tileSems_split]
  unfold tileHolds
  iintro ⟨#Hlv, -, ⟨Ht, Hz, Hi, Ho, Hp⟩, ⟨⟨⟨%fi, Hix⟩, HR, Hzb, ⟨%fa, Hac⟩⟩, Hbufs⟩, ⟨⟨Hs4, Hs0, Hs17, Hin, Hout⟩, Hsems⟩, HO⟩
  ihave HO := (show owes (V d (cV L) (jV L)) O W ⊢ owesFrom (F := F) d L O W from by
    unfold owesFrom
    iintro H
    iexists W
    isplitr
    · ipureintro; exact fun p hp => Or.inl hp
    · iexact H) $$ HO
  ihave Hi := (Entails.of_eq (show ((iV.view.loc (thr d L) ↦[blockOf iRow 16 (tileNo L)]{fullShare} I) : sProp 𝕄)
    = ((iRows L).view.loc (thr d L) ↦[(iRows L).view.set]{fullShare} I) from by rw [iRows_set d L])) $$ Hi
  ihave Hp := (Entails.of_eq (show ((pV.view.loc (thr d L) ↦[blockOf qRow 1 (tileNo L)]{fullShare} p) : sProp 𝕄)
    = ((pRow L).view.loc (thr d L) ↦[(pRow L).view.set]{fullShare} p) from by rw [pRow_set d L])) $$ Hp
  iapply (fetch_run d L I _ _ fi O W hO) $$ [Hi Hix Hs0 HO]
  · isplitr; · iexact Hlv
    isplitl [Hi]; · iexact Hi
    isplitl [Hix]; · iexact Hix
    isplitl [Hs0]; · iexact Hs0
    iexact HO
  iintro ⟨Hi, Hix, Hs0, HO⟩
  iapply (chunks_run d L q Tb Z I _ _ hI O W hO g) $$ [Ht Hix HR Hzb Hs4 HO Hz Ho Hin Hout]
  · isplitr; · iexact Hlv
    isplitl [Ht Hix HR Hzb Hs4 HO]
    · unfold common
      isplitl [Ht]; · iexact Ht
      isplitl [Hix]; · iexact Hix
      isplitl [HR]; · iexact HR
      isplitl [Hzb]; · iexact Hzb
      isplitl [Hs4]; · iexact Hs4
      iexact HO
    rw [pieces_eq]
    isplitl [Hz]; · iexact Hz
    isplitl [Ho]; · iexact Ho
    isplitl [Hin]; · iexact Hin
    iexact Hout
  rw [pieces_eq]
  unfold common
  iintro ⟨⟨Ht, Hix, HR, Hzb, Hs4, HO⟩, Hz, Ho, Hin, Hout⟩
  iapply (finish_run d L Tb Z I _ _ fa p O W hO) $$ [Hp Hac Hs17 HO]
  · isplitr; · iexact Hlv
    isplitl [Hp]; · iexact Hp
    isplitl [Hac]; · iexact Hac
    isplitl [Hs17]; · iexact Hs17
    iexact HO
  iintro ⟨Hp, Hac, Hs17, HO⟩
  ihave Hi := (Entails.of_eq (show ((iV.view.loc (thr d L) ↦[blockOf iRow 16 (tileNo L)]{fullShare} I) : sProp 𝕄)
    = ((iRows L).view.loc (thr d L) ↦[(iRows L).view.set]{fullShare} I) from by rw [iRows_set d L]).symm) $$ Hi
  ihave Hp := (Entails.of_eq (show ((pV.view.loc (thr d L) ↦[blockOf qRow 1 (tileNo L)]{fullShare} (partOf Tb Z I)) : sProp 𝕄)
    = ((pRow L).view.loc (thr d L) ↦[(pRow L).view.set]{fullShare} (partOf Tb Z I)) from by rw [pRow_set d L]).symm) $$ Hp
  sl_step
  isplitl [Ht Hz Hi Ho Hp]
  · isplitl [Ht]; · iexact Ht
    isplitl [Hz]; · iexact Hz
    isplitl [Hi]; · iexact Hi
    isplitl [Ho]; · iexact Ho
    iexact Hp
  isplitl [Hix HR Hzb Hac Hbufs]
  · isplitl [Hix HR Hzb Hac]
    · isplitl [Hix]; · iexists _; iexact Hix
      isplitl [HR]; · iexact HR
      isplitl [Hzb]; · iexact Hzb
      iexact Hac
    iexact Hbufs
  isplitl [Hs4 Hs0 Hs17 Hin Hout Hsems]
  · isplitl [Hs4 Hs0 Hs17 Hin Hout]
    · isplitl [Hs4]; · iexact Hs4
      isplitl [Hs0]; · iexact Hs0
      isplitl [Hs17]; · iexact Hs17
      isplitl [Hin]; · iexact Hin
      iexact Hout
    iexact Hsems
  unfold owesFrom
  iexact HO

end Cert.Proof

end
-- ==== Proof.Launch.lean ====
/-
  The SparseCore call as the launch theorem asks for it: what the call hands each SparseCore and each SparseCore each
  tile, how the arrays are dealt out and joined again, and the tiles' obligation.
-/
module

public import proofs.«01_k».proof.Proof.Tile
public import proofs.«01_k».proof.Proof.Deal

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

omit [FloatOps F] in
theorem nSub_zero : (K (F := F)).nSub 0 = 16 := rfl
omit [FloatOps F] in
theorem nCore_zero : (K (F := F)).nCore 0 = 2 := rfl

/-- The arrays of the call, on device `d`. -/
abbrev tL (d : Dev nD) : Loc nD τ sig := (SparseCore.T d).loc main_v10
abbrev zL (d : Dev nD) : Loc nD τ sig := (SparseCore.T d).loc main_v0
abbrev iL (d : Dev nD) : Loc nD τ sig := (SparseCore.T d).loc main_v11
abbrev oL (d : Dev nD) : Loc nD τ sig := (SparseCore.T d).loc main_v12_0
abbrev pL (d : Dev nD) : Loc nD τ sig := (SparseCore.T d).loc main_v12_1

section Call

/-- What the call finds: the table, the input rows, the indices, and the two results' old contents, per device. -/
structure CallIn (F : FTy → Type) where
  Tb : Dev nD → Vec F S8200x128 .f32
  Z : Dev nD → Vec F S65536x32 .f32
  I : Dev nD → IVec S512x128 32
  g : Dev nD → Vec F S65536x32 .f32
  p : Dev nD → Vec F S32x16 .f32

variable (A : CallIn F)

/-- All arrays of the call, whole, the results at `g` and `p`. -/
def allHolds (d : Dev nD) (g : Vec F S65536x32 .f32) (p : Vec F S32x16 .f32) : sProp 𝕄 :=
  iprop((tL d ↦{fullShare} A.Tb d) ∗ (zL d ↦{fullShare} A.Z d) ∗ (iL d ↦{fullShare} A.I d) ∗ (oL d ↦{fullShare} g) ∗ (pL d ↦{fullShare} p))

/-- What SparseCore `c` holds of them: a share of the table, its blocks' rows of the others. -/
def coreHolds (d : Dev nD) (g : Vec F S65536x32 .f32) (p : Vec F S32x16 .f32) (c : Fin 2) : sProp 𝕄 :=
  iprop((tL d ↦{shareOf 1 fullShare c.val} A.Tb d) ∗ (zL d ↦[coreOf zRow 2048 c.val]{fullShare} A.Z d)
    ∗ (iL d ↦[coreOf iRow 16 c.val]{fullShare} A.I d) ∗ (oL d ↦[coreOf zRow 2048 c.val]{fullShare} g)
    ∗ (pL d ↦[coreOf qRow 1 c.val]{fullShare} p))

/-- What its tile `i` holds of them. -/
def partHolds (d : Dev nD) (g : Vec F S65536x32 .f32) (p : Vec F S32x16 .f32) (c : Fin 2) (i : Fin 16) : sProp 𝕄 :=
  iprop((tL d ↦{shareOf 15 (shareOf 1 fullShare c.val) i.val} A.Tb d) ∗ (zL d ↦[blockOf zRow 2048 (2 * i.val + c.val)]{fullShare} A.Z d)
    ∗ (iL d ↦[blockOf iRow 16 (2 * i.val + c.val)]{fullShare} A.I d) ∗ (oL d ↦[blockOf zRow 2048 (2 * i.val + c.val)]{fullShare} g)
    ∗ (pL d ↦[blockOf qRow 1 (2 * i.val + c.val)]{fullShare} p))

omit [FloatOps F] in
theorem zRow_lt (x : S65536x32.Idx) : zRow x / 2048 < 32 := by
  have h : (x 0).val < 65536 := (x 0).isLt
  show (x 0).val / 2048 < 32
  omega

omit [FloatOps F] in
theorem iRow_lt (x : S512x128.Idx) : iRow x / 16 < 32 := by
  have h : (x 0).val < 512 := (x 0).isLt
  show (x 0).val / 16 < 32
  omega

omit [FloatOps F] in
theorem qRow_lt (x : S32x16.Idx) : qRow x / 1 < 32 := by
  have h : (x 0).val < 32 := (x 0).isLt
  show (x 0).val / 1 < 32
  omega

set_option maxRecDepth 8192 in
omit [FloatOps F] in
/-- The arrays are dealt to the two SparseCores. -/
theorem all_cores (d : Dev nD) (g : Vec F S65536x32 .f32) (p : Vec F S32x16 .f32) :
    (allHolds A d g p : sProp 𝕄) = bigSep Finset.univ fun c : Fin 2 => coreHolds A d g p c := by
  unfold coreHolds allHolds
  rw [bigSep_sep', bigSep_sep', bigSep_sep', bigSep_sep']
  exact congrArg₂ BI.sep (pointsTo_shares (ℓ := tL d) Finset.univ (A.Tb d) 1 fullShare) (congrArg₂ BI.sep (deal_cores (ℓ := zL d) zRow 2048 fullShare (A.Z d))
    (congrArg₂ BI.sep (deal_cores (ℓ := iL d) iRow 16 fullShare (A.I d)) (congrArg₂ BI.sep (deal_cores (ℓ := oL d) zRow 2048 fullShare g)
      (deal_cores (ℓ := pL d) qRow 1 fullShare p))))

set_option maxRecDepth 8192 in
omit [FloatOps F] in
/-- A SparseCore's part is dealt to its sixteen tiles. -/
theorem core_parts (d : Dev nD) (g : Vec F S65536x32 .f32) (p : Vec F S32x16 .f32) (c : Fin 2) :
    (coreHolds A d g p c : sProp 𝕄) = bigSep Finset.univ fun i : Fin 16 => partHolds A d g p c i := by
  unfold coreHolds partHolds
  rw [bigSep_sep', bigSep_sep', bigSep_sep', bigSep_sep']
  exact congrArg₂ BI.sep (pointsTo_shares (ℓ := tL d) Finset.univ (A.Tb d) 15 _) (congrArg₂ BI.sep (deal_tiles (ℓ := zL d) zRow 2048 zRow_lt c fullShare (A.Z d))
    (congrArg₂ BI.sep (deal_tiles (ℓ := iL d) iRow 16 iRow_lt c fullShare (A.I d)) (congrArg₂ BI.sep (deal_tiles (ℓ := oL d) zRow 2048 zRow_lt c fullShare g)
      (deal_tiles (ℓ := pL d) qRow 1 qRow_lt c fullShare p))))

/-- The results the call leaves. -/
abbrev outs (d : Dev nD) : Vec F S65536x32 .f32 := outOf (A.Tb d) (A.Z d) (A.I d)
abbrev parts (d : Dev nD) : Vec F S32x16 .f32 := partOf (A.Tb d) (A.Z d) (A.I d)

/-- The call's payloads. -/
def P : (K (F := F)).Pay (nD := nD) (Val := Elt F) (Name := ℕ) (U := UU) where
  st := fun q d c => match q with | 0 => coreHolds A d (A.g d) (A.p d) (Fin.cast nCore_zero c)
  dn := fun q d c => match q with | 0 => coreHolds A d (outs A d) (parts A d) (Fin.cast nCore_zero c)
  go := fun q d c i => match q with | 0 => partHolds A d (A.g d) (A.p d) (Fin.cast nCore_zero c) (Fin.cast nSub_zero i)
  td := fun q d c i => match q with | 0 => partHolds A d (outs A d) (parts A d) (Fin.cast nCore_zero c) (Fin.cast nSub_zero i)
  x := fun _ _ => iprop(emp)

instance coreHolds_storable (d : Dev nD) (g : Vec F S65536x32 .f32) (p : Vec F S32x16 .f32) (c : Fin 2) :
    BI.Storable (upEmb : UEmb _ 𝕄) (coreHolds A d g p c) := by unfold coreHolds; infer_instance
instance partHolds_storable (d : Dev nD) (g : Vec F S65536x32 .f32) (p : Vec F S32x16 .f32) (c : Fin 2) (i : Fin 16) :
    BI.Storable (upEmb : UEmb _ 𝕄) (partHolds A d g p c i) := by unfold partHolds; infer_instance

instance P_storable : (P A).IsStorable where
  st q d c := match q with | 0 => coreHolds_storable A d (A.g d) (A.p d) (Fin.cast nCore_zero c)
  dn q d c := match q with | 0 => coreHolds_storable A d (outs A d) (parts A d) (Fin.cast nCore_zero c)
  go q d c i := match q with | 0 => partHolds_storable A d (A.g d) (A.p d) (Fin.cast nCore_zero c) (Fin.cast nSub_zero i)
  td q d c i := match q with | 0 => partHolds_storable A d (outs A d) (parts A d) (Fin.cast nCore_zero c) (Fin.cast nSub_zero i)

/-! ## The tiles' obligation -/

/-- The coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => body (coordsV c s)) ⟨⟩ c s := rfl

omit [FloatOps F] in
/-- The obligation's post lists more waits than a tile leaves. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets its obligation, the indices naming rows of the table. -/
theorem tileObl (hI : ∀ d r, (wordAt (A.I d) r).toNat < 8200) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (shareOf 15 (shareOf 1 fullShare c.val) i.val) (A.Tb d) (A.Z d) (A.I d) (hI d) (A.g d) (A.p d) O W hO).trans
    (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_seqs (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore's part splits over its tiles and is joined from what they leave. -/
theorem vecSplit : (K (F := F)).VecSplit' (P A) 0 := by
  intro d c
  show iprop(coreHolds A d (A.g d) (A.p d) (Fin.cast nCore_zero c)) ⊢ |={Set.univ}=> iprop(
      (bigSep Finset.univ fun i : Fin ((K (F := F)).nSub 0) => partHolds A d (A.g d) (A.p d) (Fin.cast nCore_zero c) (Fin.cast nSub_zero i))
      ∗ ((bigSep Finset.univ fun i : Fin ((K (F := F)).nSub 0) => partHolds A d (outs A d) (parts A d) (Fin.cast nCore_zero c) (Fin.cast nSub_zero i))
          -∗ coreHolds A d (outs A d) (parts A d) (Fin.cast nCore_zero c)))
  rw [bigSep_tasks (F := F) (fun i => partHolds A d (A.g d) (A.p d) (Fin.cast nCore_zero c) i),
    bigSep_tasks (F := F) (fun i => partHolds A d (outs A d) (parts A d) (Fin.cast nCore_zero c) i), core_parts, core_parts]
  iintro H; imodintro
  isplitl [H]; · iexact H
  iintro H; iexact H

/-- What the TensorCore hands the call is all the arrays, and it gets all back. -/
theorem st_eq (d : Dev nD) : (bigSep Finset.univ fun c : Fin ((K (F := F)).nCore 0) => (P A).st 0 d c) = allHolds A d (A.g d) (A.p d) :=
  (bigSep_seqs (F := F) fun c => coreHolds A d (A.g d) (A.p d) c).trans (all_cores A d _ _).symm
theorem dn_eq (d : Dev nD) : (bigSep Finset.univ fun c : Fin ((K (F := F)).nCore 0) => (P A).dn 0 d c) = allHolds A d (outs A d) (parts A d) :=
  (bigSep_seqs (F := F) fun c => coreHolds A d (outs A d) (parts A d) c).trans (all_cores A d _ _).symm

end Call

end Cert.Proof

end
-- ==== Proof.Region.lean ====
/-
  The TensorCore call: its body's run, its proof data and its region. The body finds a block of 2048 input rows, the
  table's transpose, the table rows' squared norms and the row numbers, and leaves the block's 2048 indices.
-/
module

public import proofs.«01_k».proof.Proof.Vocab
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.Value
public import Idealize.ShloMosaic.Lib.Pipeline.FrameBody
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

open Idealize.ShloMosaic.TcCoe
open Idealize.ShloMosaic.Pipeline (Dat Cfg Window BodyObligation BodyObligationLoose cellOf)

local notation "𝕄" => MT nD τ sig (HIx 1) (Elt F) ℕ UU ℕ

/-- The indices of a block of input rows: from the rows, the table's transpose, its rows' squared norms and their
    numbers. -/
def idxBlk (z : Vec F S2048x32 .f32) (w : Vec F S32x8192 .bf16) (n : Vec F S1x8192 .f32) (k : Vec F S1x8192 .f32) : IVec S1x1x2048 32 :=
  k0_pay1 (k0_pay6 z w n) (k0_pay8 z w n k) (k0_pay9 z w n k) (k0_pay10 z w n)

/-- A whole memref's load through the full rectangle reads its contents. -/
theorem readAt_full {sp : Space} {s : Shape} {e : EltTy} (M : Memref sig .tc sp s e) (f : M.view.ty.Contents (Elt F)) {off : Fin s.rank → ℕ}
    (h : off = fun _ => 0) (inb : ∀ a, off a + s.size a ≤ s.size a) :
    M.view.readAt (Elt F) (Rect.unit (s := s) off s.size inb).toLoadRect f = M.view.read (Elt F) f :=
  (View.readAt_eq_ld M.view f _).trans (View.ld_unit_zero h inb _)

/-- A whole memref's store through the full rectangle leaves what was stored. -/
theorem read_full_write {sp : Space} {s : Shape} {e : EltTy} (M : Memref sig .tc sp s e) {off : Fin s.rank → ℕ}
    (h : off = fun _ => 0) (inb : ∀ a, off a + s.size a ≤ s.size a) (w : s.Idx → Elt F e) (f : M.view.ty.Contents (Elt F)) :
    M.view.read (Elt F) (M.view.writes (Elt F) f [⟨Rect.unit (s := s) off s.size inb, w⟩]) = w := by
  subst h
  funext y
  have := View.read_writes_cons_emb M.view f (Rect.whole s) w [] y
  rw [Rect.emb_whole_apply] at this
  exact this

theorem zero2 : (![0, 0] : Fin 2 → ℕ) = fun _ => 0 := by decide
theorem zero3 : (![0, 0, 0] : Fin 3 → ℕ) = fun _ => 0 := by decide

set_option maxRecDepth 16384 in
/-- The body's run, on any staging buffers. -/
theorem dist_body (d : Dev nD) (i : grid0.Coords) (M1 : Memref sig .tc .vmem S2048x32 .f32) (h1 : M1.IsWhole)
    (M2 : Memref sig .tc .vmem S32x8192 .bf16) (h2 : M2.IsWhole) (M3 : Memref sig .tc .vmem S1x8192 .f32) (h3 : M3.IsWhole)
    (M4 : Memref sig .tc .vmem S1x8192 .f32) (h4 : M4.IsWhole) (M5 : Memref sig .tc .vmem S1x1x2048 .i32) (h5 : M5.IsWhole)
    (z : Vec F S2048x32 .f32) (w : Vec F S32x8192 .bf16) (n : Vec F S1x8192 .f32) (k : Vec F S1x8192 .f32) :
    iprop(owns (d : Thread nD τ) M1 fullShare z ∗ owns (d : Thread nD τ) M2 fullShare w ∗ owns (d : Thread nD τ) M3 fullShare n
        ∗ owns (d : Thread nD τ) M4 fullShare k ∗ ∃ X, owns (d : Thread nD τ) M5 fullShare X)
      ⊢ (wp frame (wpE (defs₀ (F := F)) 𝒱₀ (d : Thread nD τ) none) Set.univ (cc0__dist_argmin_body i M1 h1 M2 h2 M3 h3 M4 h4 M5 h5)
          fun _ => iprop(owns (d : Thread nD τ) M1 fullShare z ∗ owns (d : Thread nD τ) M2 fullShare w ∗ owns (d : Thread nD τ) M3 fullShare n
            ∗ owns (d : Thread nD τ) M4 fullShare k ∗ owns (d : Thread nD τ) M5 fullShare (idxBlk z w n k : S1x1x2048.Idx → Elt F .i32)) : sProp 𝕄) := by
  rw [cc0__dist_argmin_body_eq_skeleton]
  unfold cc0__dist_argmin_body_skel
  rw [k0_part1_eq_skeleton]
  unfold k0_part1_skel owns
  iintro ⟨⟨%f1, %e1, H1⟩, ⟨%f2, %e2, H2⟩, ⟨%f3, %e3, H3⟩, ⟨%f4, %e4, H4⟩, ⟨%X, %f5, %e5, H5⟩⟩
  subst e1 e2 e3 e4
  sl_exec
  sl_step
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _
  isplitr
  rotate_left
  · iexact H5
  · ipureintro
    rw [read_full_write M5 zero3]
    simp only [readAt_full M1 f1 zero2, readAt_full M2 f2 zero2, readAt_full M3 f3 zero2, readAt_full M4 f4 zero2]
    rfl

/-! ## The proof data, at an entry valuation -/

open Idealize.ShloMosaic.Pipeline (arrRef arrRefs ucRefs afterRegion)

abbrev adm : (p : Fin 1) → (pcfgs (F := F) p).Adm := fun p => (cfgs p).toPCfg_adm

variable (En : Dev nD → Valuation τ sig (Elt F))

/-- Window `w`'s array at the entry valuation. -/
abbrev arr0 (d : Dev nD) (w : Fin cfg0.W) : Buf (Elt F) ((cfg0.win w).arr.view.loc (d : Thread nD τ)) :=
  En d (Proc.devRef .tc (arrRef spec0 w))

/-- The blocks at point `t`, read out of their arrays: the input rows, the table's transpose, its rows' squared norms
    and their numbers. -/
abbrev zBlk (d : Dev nD) (t : Fin cfg0.N) : Vec F S2048x32 .f32 := ((cfg0.win 0).blk t).view.read (Elt F) (arr0 En d 0)
abbrev wBlk (d : Dev nD) (t : Fin cfg0.N) : Vec F S32x8192 .bf16 := ((cfg0.win 1).blk t).view.read (Elt F) (arr0 En d 1)
abbrev nBlk (d : Dev nD) (t : Fin cfg0.N) : Vec F S1x8192 .f32 := ((cfg0.win 2).blk t).view.read (Elt F) (arr0 En d 2)
abbrev kBlk (d : Dev nD) (t : Fin cfg0.N) : Vec F S1x8192 .f32 := ((cfg0.win 3).blk t).view.read (Elt F) (arr0 En d 3)

/-- The pairs that the core may have recorded beside the pipeline's own: those at level 0. -/
def recd (d : Dev nD) : Set (SemLoc sig × HIx 1) := {p | (K (F := F)).lev (SparseCore.T d, p.1) p.2 ≤ 0}

/-- The region's proof data: the arrays at the entry valuation, each input's block kept by the body, the output's
    block its indices; the core owes the SparseCore call's start throughout. -/
def dat (d : Dev nD) : Dat τ (Elt F) (HIx 1) ℕ UU ℕ cfg0 d where
  A w := arr0 En d w
  after w t := match w with
    | ⟨0, _⟩ => zBlk En d t
    | ⟨1, _⟩ => wBlk En d t
    | ⟨2, _⟩ => nBlk En d t
    | ⟨3, _⟩ => kBlk En d t
    | ⟨4, _⟩ => idxBlk (zBlk En d t) (wBlk En d t) (nBlk En d t) (kBlk En d t)
  Φ _ := BI.emp
  q _ := fullShare
  owed _ := (K (F := F)).Otc d 0
  recorded _ := recd (F := F) d

theorem before0 (d : Dev nD) (t : Fin cfg0.N) (X) : (dat En d).before 0 t X = zBlk En d t :=
  ((dat En d).before_in_eq_fetched 0 rfl (fun _ => rfl) (fun _ _ _ => rfl) (fun _ => rfl) t X).trans rfl
theorem before1 (d : Dev nD) (t : Fin cfg0.N) (X) : (dat En d).before 1 t X = wBlk En d t :=
  ((dat En d).before_in_eq_fetched 1 rfl (fun _ => rfl) (fun _ _ _ => rfl) (fun _ => rfl) t X).trans rfl
theorem before2 (d : Dev nD) (t : Fin cfg0.N) (X) : (dat En d).before 2 t X = nBlk En d t :=
  ((dat En d).before_in_eq_fetched 2 rfl (fun _ => rfl) (fun _ _ _ => rfl) (fun _ => rfl) t X).trans rfl
theorem before3 (d : Dev nD) (t : Fin cfg0.N) (X) : (dat En d).before 3 t X = kBlk En d t :=
  ((dat En d).before_in_eq_fetched 3 rfl (fun _ => rfl) (fun _ _ _ => rfl) (fun _ => rfl) t X).trans rfl

/-- The body obligation: at every point the body's run on the blocks the pipeline staged. -/
theorem body_obligation (d : Dev nD) : BodyObligation (dat En d) (defs₀ (F := F)) 𝒱₀ (none : HIx 1) Set.univ := fun t => by
  rw [bigSep_W0, bigSep_W0]
  rw [show (dat En d).Φ t.castSucc = (BI.emp : sProp 𝕄) from rfl, show (dat En d).Φ t.succ = (BI.emp : sProp 𝕄) from rfl,
    show (dat En d).owesAt (none : HIx 1) t.succ = (dat En d).owesAt (none : HIx 1) t.castSucc from rfl]
  change _ ⊢ wp frame _ Set.univ (bodyAt0 t) _
  iintro ⟨-, HO, ⟨%d0, H0⟩, ⟨%d1, H1⟩, ⟨%d2, H2⟩, ⟨%d3, H3⟩, ⟨%d4, H4⟩⟩
  simp only [before0, before1, before2, before3]
  ihave Hw := (dist_body d (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (zBlk En d t) (wBlk En d t) (nBlk En d t) (kBlk En d t)) $$ [H0 H1 H2 H3 H4]
  · isplitl [H0]; · iexact H0
    isplitl [H1]; · iexact H1
    isplitl [H2]; · iexact H2
    isplitl [H3]; · iexact H3
    iexists _; iexact H4
  iapply (wp_wand _ _ _) $$ Hw
  iintro %_ ⟨H0, H1, H2, H3, H4⟩
  isplitr; · iempintro
  isplitl [HO]; · iexact HO
  isplitl [H0]; · iexact H0
  isplitl [H1]; · iexact H1
  isplitl [H2]; · iexact H2
  isplitl [H3]; · iexact H3
  iexact H4

/-! ## The region over the thread state -/

abbrev pdats : (p : Fin 1) → (d : Dev nD) → Dat τ (Elt F) (HIx 1) ℕ UU ℕ (Pipeline.pin (pcfgs (F := F)) adm p) d := fun _ d => dat En d

/-- The staging waits' level lies below everything that the core owes. -/
theorem levelCut (d : Dev nD) : (levAts (K (F := F)).L (K (F := F)).lev : sProp 𝕄)
    ⊢ Pipeline.cellsWaits (Pipeline.pin (pcfgs (F := F)) adm) (pdats En) (none : HIx 1) 0 d :=
  Pipeline.cellsWaits_of_cut (Pipeline.pin (pcfgs (F := F)) adm) (pdats En) none 0 d 0 ((K (F := F)).Otc d 0) (fun _ => rfl)
    (fun _ _ => Finset.mem_univ _) (fun _ _ => le_refl (0 : ℕ))
    (fun _ _ h => ⟨Finset.mem_univ _, lt_of_lt_of_le (Nat.succ_pos _) (SparseCore.Cfg.lev_of_Otc_pos h)⟩)

/-- The recorded pairs' levels stay 0 over the region: its own waits are at level 0. -/
theorem bound_sub (d : Dev nD) (t : Fin (cfg0.N + 1)) : (dat En d).bound (none : HIx 1) t ⊆ recd (F := F) d := by
  rintro p (h | ⟨w, s, rfl⟩)
  · exact h
  · exact (le_refl (0 : ℕ) : (K (F := F)).lev _ none ≤ 0)

theorem arrs_sub : (arrRefs (τ := τ) spec0) ⊆ ucRefs τ sig := Pipeline.arrRefs_sub_ucRefs spec0 (by decide)

/-- The region: entered from every unscoped buffer at the entry valuation, left with them after the write-backs. -/
def reg : Pipeline.RegionSeg (pcfgs (F := F)) adm (pdats En) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation En d).loose
  hwaits := levelCut En
  pre d := iprop(StableHlo.held (d : Thread nD τ) (ucRefs τ sig) (En d) ∗ Pipeline.owesWithin d ((K (F := F)).Otc d 0) (recd (F := F) d))
  post d := iprop(StableHlo.held (d : Thread nD τ) (ucRefs τ sig) (afterRegion (dat En d) (En d))
    ∗ Pipeline.owesWithin d ((K (F := F)).Otc d 0) (recd (F := F) d))
  X _ := BI.emp
  Y _ := BI.emp
  Z d := StableHlo.held (d : Thread nD τ) (ucRefs τ sig \ arrRefs spec0) (En d)
  hentry d := by
    have harr : ((pdats En 0 d).arrays ((pdats En 0 d).arrAt · 0) : sProp 𝕄) = StableHlo.held (d : Thread nD τ) (arrRefs spec0) (En d) :=
      Pipeline.arrays_held (pcfgs (F := F)) adm (pdats En) 0 launch0.toP d ((dat En d).share_full fun _ => rfl) _ _ (fun _ => rfl)
    rw [Pipeline.ownSems0_none, harr, StableHlo.held_sub_split (d : Thread nD τ) arrs_sub (En d)]
    iintro ⟨⟨⟨Ha, Hr⟩, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, %hW, HO⟩; iexists W; isplitr; · ipureintro; exact fun p hp => Or.inl (hW hp)
      iexact HO
    isplitr; · iempintro
    iexact Hr
  hin d := by
    rw [show (pdats En 0 d).Φ 0 = (BI.emp : sProp 𝕄) from rfl]
    iintro ⟨-, -, Hr⟩; iempintro
  hout d := by
    rw [Pipeline.ownSems0_none, show (pdats En 0 d).Φ (Fin.last _) = (BI.emp : sProp 𝕄) from rfl]
    iintro Hr
    isplitr; · iempintro
    isplitr; · iempintro
    rw [show (Pipeline.scopedRest (pcfgs (F := F) 0).spec d : sProp 𝕄) = BI.emp from scopedRest0_eq d]
    iempintro
  hexit d := by
    have harr : ((pdats En 0 d).arrays ((pdats En 0 d).arrAt · cfg0.N) : sProp 𝕄) = StableHlo.held (d : Thread nD τ) (arrRefs spec0) (afterRegion (dat En d) (En d)) :=
      Pipeline.arrays_held (pcfgs (F := F)) adm (pdats En) 0 launch0.toP d ((dat En d).share_full fun _ => rfl) _ _
        (fun w => (Pipeline.afterRegion_arr (dat En d) (En d) launch0.win.arr_inj w).symm)
    rw [show ((pdats En 0 d).arrays ((pdats En 0 d).arrAt · (Pipeline.pinD (pcfgs (F := F)) (fun _ => adm) d 0).N) : sProp 𝕄) = _ from harr,
      StableHlo.held_sub_split (d : Thread nD τ) arrs_sub (afterRegion (dat En d) (En d)),
      StableHlo.held_congr (d : Thread nD τ) (S := ucRefs τ sig \ arrRefs spec0) (V := afterRegion (dat En d) (En d)) (V' := En d)
        (Pipeline.afterRegion_off (dat En d) (En d) _)]
    iintro ⟨Ha, HO, -, Hr⟩
    imodintro
    isplitl [Ha Hr]
    · isplitl [Ha]; · iexact Ha
      iexact Hr
    unfold Pipeline.owesWithin
    icases HO with ⟨%W, %hW, HO⟩; iexists W; isplitr; · ipureintro; exact fun p hp => bound_sub En d _ (hW hp)
    iexact HO

end Cert.Proof

end
-- ==== Proof.Main.lean ====
/-
  @main: the host operations around the two calls, and the program's run.
-/
module

public import proofs.«01_k».proof.Proof.Launch
public import proofs.«01_k».proof.Proof.Region
public import Idealize.ShloMosaic.Lib.Pipeline.Regions
@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

open Idealize.ShloMosaic.TcCoe
open Idealize.ShloMosaic.Rounds
open Idealize.ShloMosaic.StableHlo (held after launchContents)
open Idealize.ShloMosaic.Pipeline (arrRef arrRefs ucRefs afterRegion)

local notation "𝕄" => MT nD τ sig (HIx 1) (Elt F) ℕ UU ℕ

/-! ## The host operations -/

/-- The host operations before the TensorCore call: the flattened input, the table transposed and narrowed, its rows' squared
    norms and their numbers. -/
def ops1 : List (HloOp τ sig (Elt F)) :=
  [StableHlo.reshape main_arg0 main_v0 (rfl : (.f32 : EltTy) = .f32) shapeCasts_S64x1024x32_S65536x32,
   StableHlo.binary main_arg1 main_arg1 main_v1 (mulf : (⟨S8192x32, .f32⟩ : BufTy).Contents (Elt F) → (⟨S8192x32, .f32⟩ : BufTy).Contents (Elt F) → (⟨S8192x32, .f32⟩ : BufTy).Contents (Elt F)),
   StableHlo.nullary main_cst (constant S_ .f32 0x00000000#32),
   StableHlo.binary main_v1 main_cst main_v2 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
   StableHlo.unary main_arg1 main_v3 ((transpose S32x8192 [1, 0] · transposes_S8192x32_S32x8192_1_0) : (⟨S8192x32, .f32⟩ : BufTy).Contents (Elt F) → (⟨S32x8192, .f32⟩ : BufTy).Contents (Elt F)),
   StableHlo.unary main_v3 main_v4 ((truncf .bf16 · bitsLt_bf16_f32) : (⟨S32x8192, .f32⟩ : BufTy).Contents (Elt F) → (⟨S32x8192, .bf16⟩ : BufTy).Contents (Elt F)),
   StableHlo.reshape main_v2 main_v5 (rfl : (.f32 : EltTy) = .f32) shapeCasts_S8192_S1x8192,
   StableHlo.nullary main_v6 (sitofp .f32 (iotaInDim S8192 32 0)),
   StableHlo.reshape main_v6 main_v7 (rfl : (.f32 : EltTy) = .f32) shapeCasts_S8192_S1x8192]

/-- The host operations between the two calls: the indices flattened and laid out by rows of 128, the table padded. -/
def ops2 : List (HloOp τ sig (Elt F)) :=
  [StableHlo.reshape main_v8 main_v9 (rfl : (.i32 : EltTy) = .i32) shapeCasts_S32x1x2048_S65536,
   StableHlo.nullary main_c (constantI S_ 32 0#32),
   StableHlo.unary main_c main_call0_v0 (sitofp .f32 : (⟨S_, .i32⟩ : BufTy).Contents (Elt F) → (⟨S_, .f32⟩ : BufTy).Contents (Elt F)),
   StableHlo.binary main_arg1 main_call0_v0 main_v10 ((fun x v => pad S8200x128 ![0, 0] ![8, 96] ![0, 0] x v pads_S8192x32_S8200x128_080_0960 h_S_) : (⟨S8192x32, .f32⟩ : BufTy).Contents (Elt F) → (⟨S_, .f32⟩ : BufTy).Contents (Elt F) → (⟨S8200x128, .f32⟩ : BufTy).Contents (Elt F)),
   StableHlo.reshape main_v9 main_v11 (rfl : (.i32 : EltTy) = .i32) shapeCasts_S65536_S512x128]

/-- The host operations after the SparseCore call: the loss out of the partial sums, the results reshaped. -/
def ops3 : List (HloOp τ sig (Elt F)) :=
  [StableHlo.nullary main_cst_0 (constant S_ .f32 0x00000000#32),
   StableHlo.binary main_v12_1 main_cst_0 main_v13 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.nullary main_cst_1 (constant S_ .f32 0x4A000000#32),
   StableHlo.binary main_v13 main_cst_1 main_v14 (Host.divf : (⟨S_, .f32⟩ : BufTy).Contents (Elt F) → (⟨S_, .f32⟩ : BufTy).Contents (Elt F) → (⟨S_, .f32⟩ : BufTy).Contents (Elt F)),
   StableHlo.nullary main_cst_2 (constant S_ .f32 0x3E800000#32),
   StableHlo.binary main_cst_2 main_v14 main_v15 (mulf : (⟨S_, .f32⟩ : BufTy).Contents (Elt F) → (⟨S_, .f32⟩ : BufTy).Contents (Elt F) → (⟨S_, .f32⟩ : BufTy).Contents (Elt F)),
   StableHlo.binary main_v14 main_v15 main_v16 (addf : (⟨S_, .f32⟩ : BufTy).Contents (Elt F) → (⟨S_, .f32⟩ : BufTy).Contents (Elt F) → (⟨S_, .f32⟩ : BufTy).Contents (Elt F)),
   StableHlo.reshape main_v12_0 main_v17 (rfl : (.f32 : EltTy) = .f32) shapeCasts_S65536x32_S64x1024x32,
   StableHlo.reshape main_v9 main_v18 (rfl : (.i32 : EltTy) = .i32) shapeCasts_S65536_S64x1024]

/-- The program is the three lists around its two calls. -/
theorem main_eq (d : Dev nD) : main (F := F) d = (StableHlo.seq ops1 >>= fun _ => Prog.lift (.customCall (SparseCore.inner (Pipeline.entry 0)) ())
    >>= fun _ => StableHlo.seq ops2 >>= fun _ => sc.run d 0 >>= fun _ => StableHlo.seq ops3 >>= fun _ => pure ⟨⟩) := by
  chain_rfl

omit [FloatOps F] in
/-- An operation on the TensorCore's buffers works on unscoped ones. -/
theorem sub_uc (op : HloOp τ sig (Elt F)) (h : op.bufs ⊆ StableHlo.tcRefs τ sig) : op.bufs ⊆ ucRefs τ sig := by
  intro b hb
  rw [ucRefs, Finset.mem_filter]
  exact ⟨h hb, by rw [op.no_scoped b hb]; decide⟩

theorem ops1_sub : ∀ op ∈ (ops1 : List (HloOp τ sig (Elt F))), op.bufs ⊆ ucRefs τ sig := by
  intro op h; refine sub_uc op ?_
  revert op; rw [← List.forall_iff_forall_mem]
  exact ⟨StableHlo.reshape_bufs_sub .., StableHlo.binary_bufs_sub .., StableHlo.nullary_bufs_sub .., StableHlo.binary_bufs_sub ..,
    StableHlo.unary_bufs_sub .., StableHlo.unary_bufs_sub .., StableHlo.reshape_bufs_sub .., StableHlo.nullary_bufs_sub .., StableHlo.reshape_bufs_sub ..⟩

theorem ops2_sub : ∀ op ∈ (ops2 : List (HloOp τ sig (Elt F))), op.bufs ⊆ ucRefs τ sig := by
  intro op h; refine sub_uc op ?_
  revert op; rw [← List.forall_iff_forall_mem]
  exact ⟨StableHlo.reshape_bufs_sub .., StableHlo.nullary_bufs_sub .., StableHlo.unary_bufs_sub .., StableHlo.binary_bufs_sub ..,
    StableHlo.reshape_bufs_sub ..⟩

theorem ops3_sub : ∀ op ∈ (ops3 : List (HloOp τ sig (Elt F))), op.bufs ⊆ ucRefs τ sig := by
  intro op h; refine sub_uc op ?_
  revert op; rw [← List.forall_iff_forall_mem]
  exact ⟨StableHlo.nullary_bufs_sub .., StableHlo.binary_bufs_sub .., StableHlo.nullary_bufs_sub .., StableHlo.binary_bufs_sub ..,
    StableHlo.nullary_bufs_sub .., StableHlo.binary_bufs_sub .., StableHlo.binary_bufs_sub .., StableHlo.reshape_bufs_sub .., StableHlo.reshape_bufs_sub ..⟩

theorem ops1_fresh : ∀ op ∈ (ops1 : List (HloOp τ sig (Elt F))), op.fresh = ∅ := by
  rw [← List.forall_iff_forall_mem]; exact ⟨rfl, rfl, rfl, rfl, rfl, rfl, rfl, rfl, rfl⟩
theorem ops2_fresh : ∀ op ∈ (ops2 : List (HloOp τ sig (Elt F))), op.fresh = ∅ := by
  rw [← List.forall_iff_forall_mem]; exact ⟨rfl, rfl, rfl, rfl, rfl⟩
theorem ops3_fresh : ∀ op ∈ (ops3 : List (HloOp τ sig (Elt F))), op.fresh = ∅ := by
  rw [← List.forall_iff_forall_mem]; exact ⟨rfl, rfl, rfl, rfl, rfl, rfl, rfl, rfl, rfl⟩

/-! ## What the buffers hold, from the launch memory on -/

variable (m : (ℓ : Loc nD τ sig) → Buf (Elt F) ℓ)

/-- Before the TensorCore call. -/
def V1 (d : Dev nD) : Valuation τ sig (Elt F) := after ops1 (launchContents m d)
/-- After the TensorCore call. -/
def V2 (d : Dev nD) : Valuation τ sig (Elt F) := afterRegion (dat (V1 m) d) (V1 m d)
/-- Before the SparseCore call. -/
def V3 (d : Dev nD) : Valuation τ sig (Elt F) := after ops2 (V2 m d)

/-- The SparseCore call's arrays. -/
def callIn : CallIn F where
  Tb d := V3 m d (Proc.devRef .tc main_v10)
  Z d := V3 m d (Proc.devRef .tc main_v0)
  I d := V3 m d (Proc.devRef .tc main_v11)
  g d := V3 m d (Proc.devRef .tc main_v12_0)
  p d := V3 m d (Proc.devRef .tc main_v12_1)

/-- After the SparseCore call. -/
def V4 (d : Dev nD) : Valuation τ sig (Elt F) :=
  Function.update (Function.update (V3 m d) (Proc.devRef .tc main_v12_0) (outs (callIn m) d)) (Proc.devRef .tc main_v12_1) (parts (callIn m) d)
/-- At the end. -/
def V5 (d : Dev nD) : Valuation τ sig (Elt F) := after ops3 (V4 m d)

/-- The SparseCore call's buffers. -/
def callRefs : Finset (DevRef τ sig) :=
  {Proc.devRef .tc main_v10, Proc.devRef .tc main_v0, Proc.devRef .tc main_v11, Proc.devRef .tc main_v12_0, Proc.devRef .tc main_v12_1}

theorem callRefs_sub : callRefs ⊆ ucRefs τ sig := by decide

omit [FloatOps F] in
/-- They, held one by one. -/
theorem held_call (d : Dev nD) (W : Valuation τ sig (Elt F)) :
    (held (SparseCore.T d) callRefs W : sProp 𝕄) = iprop((tL d ↦{fullShare} W (Proc.devRef .tc main_v10)) ∗ (zL d ↦{fullShare} W (Proc.devRef .tc main_v0))
      ∗ (iL d ↦{fullShare} W (Proc.devRef .tc main_v11)) ∗ (oL d ↦{fullShare} W (Proc.devRef .tc main_v12_0)) ∗ (pL d ↦{fullShare} W (Proc.devRef .tc main_v12_1))) := by
  unfold held callRefs
  rw [SparseCore.bigSep_insert' (by decide), SparseCore.bigSep_insert' (by decide), SparseCore.bigSep_insert' (by decide),
    SparseCore.bigSep_insert' (by decide), bigSep_singleton]

theorem held_call3 (d : Dev nD) : (held (SparseCore.T d) callRefs (V3 m d) : sProp 𝕄) = allHolds (callIn m) d ((callIn m).g d) ((callIn m).p d) :=
  held_call d (V3 m d)

/-- What the host operations before the call leave: the call's buffers and the others. -/
theorem held_V3 (d : Dev nD) : (held (d.tc : Thread nD τ) (ucRefs τ sig) (after ops2 (V2 m d)) : sProp 𝕄)
    = iprop(held (SparseCore.T d) callRefs (V3 m d) ∗ held (SparseCore.T d) (ucRefs τ sig \ callRefs) (V3 m d)) :=
  StableHlo.held_sub_split (SparseCore.T d) callRefs_sub (V3 m d)

theorem V4_out (d : Dev nD) : V4 m d (Proc.devRef .tc main_v12_0) = outs (callIn m) d := by
  unfold V4
  rw [Function.update_of_ne (by decide), Function.update_self]
theorem V4_part (d : Dev nD) : V4 m d (Proc.devRef .tc main_v12_1) = parts (callIn m) d := by
  unfold V4
  rw [Function.update_self]
theorem V4_ne (d : Dev nD) (b : DevRef τ sig) (h0 : b ≠ Proc.devRef .tc main_v12_0) (h1 : b ≠ Proc.devRef .tc main_v12_1) : V4 m d b = V3 m d b := by
  unfold V4
  rw [Function.update_of_ne h1, Function.update_of_ne h0]

theorem held_call4 (d : Dev nD) : (held (SparseCore.T d) callRefs (V4 m d) : sProp 𝕄) = allHolds (callIn m) d (outs (callIn m) d) (parts (callIn m) d) := by
  rw [held_call, V4_out, V4_part, V4_ne m d _ (by decide) (by decide), V4_ne m d _ (by decide) (by decide), V4_ne m d _ (by decide) (by decide)]
  rfl

theorem held_rest (d : Dev nD) : (held (SparseCore.T d) (ucRefs τ sig \ callRefs) (V4 m d) : sProp 𝕄) = held (SparseCore.T d) (ucRefs τ sig \ callRefs) (V3 m d) :=
  StableHlo.held_congr _ fun b hb => by
    have hb' := (Finset.mem_sdiff.mp hb).2
    exact V4_ne m d b (fun h => hb' (h ▸ by decide)) (fun h => hb' (h ▸ by decide))

/-! ## The ghost state of the launch -/

abbrev pc : Fin 1 → Pipeline.Cfg sig Λ₀ := Pipeline.pin (pcfgs (F := F)) adm

/-- The handshakes' rounds and the pipeline's, at their start. -/
def u₀ : UU := (initOf (K (F := F)).hsCells (K (F := F)).hsToks, (initOf (Pipeline.cells (pc (F := F)) cellOf_inj) (Pipeline.launchToks (pc (F := F)) cellOf_inj), 1))

/-- The pipeline's ghost state of a device. -/
def ghost (d : Dev nD) : sProp 𝕄 := iprop(Pipeline.cellsGhost (pc (F := F)) EP 0 d ∗ Pipeline.toksInit (pc (F := F)) EP 0 d)

omit [FloatOps F] in
theorem ghost_eq : (bigSep Finset.univ (ghost (F := F)) : sProp 𝕄)
    = iprop((bigSep Finset.univ fun c : Dev nD => bigSep Finset.univ fun p : Fin 1 => Pipeline.cellsGhost (pc (F := F)) EP p c)
      ∗ (bigSep Finset.univ fun c : Dev nD => bigSep Finset.univ fun p : Fin 1 => Pipeline.toksInit (pc (F := F)) EP p c)) := by
  unfold ghost
  rw [bigSep_sep']
  have h1 (c : Dev nD) : (bigSep Finset.univ fun p : Fin 1 => Pipeline.cellsGhost (pc (F := F)) EP p c : sProp 𝕄) = Pipeline.cellsGhost (pc (F := F)) EP 0 c :=
    bigSep_univ_of_subsingleton (0 : Fin 1)
  have h2 (c : Dev nD) : (bigSep Finset.univ fun p : Fin 1 => Pipeline.toksInit (pc (F := F)) EP p c : sProp 𝕄) = Pipeline.toksInit (pc (F := F)) EP 0 c :=
    bigSep_univ_of_subsingleton (0 : Fin 1)
  simp only [h1, h2]

omit [FloatOps F] in
theorem ghost_launch : (BI.own (EP (initOf (Pipeline.cells (pc (F := F)) cellOf_inj) (Pipeline.launchToks (pc (F := F)) cellOf_inj))) : sProp 𝕄)
    ⊢ iprop(|==> bigSep Finset.univ (ghost (F := F))) := by
  iintro H
  imod (Pipeline.fund_ghost (pc (F := F)) EP cellOf_inj) $$ H with ⟨Hc, Ht⟩
  imodintro
  iapply (Entails.of_eq (ghost_eq (F := F)).symm)
  isplitl [Hc]; · iexact Hc
  iexact Ht

omit [FloatOps F] in
theorem bigSep_nothing {I : Type} (s : Finset I) : (bigSep s fun _ => (BI.emp : sProp 𝕄)) = (BI.emp : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (ghost (F := F)))
        ∗ bigSep Finset.univ fun thr : Thread nD τ => bigSep Finset.univ fun q : Fin 1 => (P (callIn m)).x q thr) := by
  unfold u₀
  iintro Hu
  ihave H := (ownU_pair _ _) $$ Hu
  icases H with ⟨HH, HR⟩
  ihave H := (own_pair_emb embR _ _) $$ HR
  icases H with ⟨HP, -⟩
  ihave H := (ghost_launch (F := F)) $$ HP
  imod H with HG
  imodintro
  isplitl [HH]; · iexact HH
  isplitl [HG]; · iexact HG
  rw [show (bigSep Finset.univ fun thr : Thread nD τ => bigSep Finset.univ fun q : Fin 1 => (P (F := F) (callIn m)).x q thr) = bigSep Finset.univ fun _ => (BI.emp : sProp 𝕄) from
    bigSep_congr fun _ _ => bigSep_univ_of_subsingleton (0 : Fin 1), bigSep_nothing]
  iempintro

/-! ## @main's run -/

/-- The TensorCore call in the whole program's labels is that in the pipeline's. -/
theorem call_lift (d : Dev nD) (Φ : PUnit.{1} → sProp 𝕄) :
    wp frame (wpE (D (F := F)) 𝒱 (SparseCore.T d) none) Set.univ (Prog.lift (.customCall (Pipeline.entry 0) ()) : Prog (TpuEff nD τ sig (Elt F) (ΛP (F := F)) .tc) PUnit) Φ
      ⊢ wp frame (wpE ((K (F := F)).defs (D (F := F))) 𝒱 (SparseCore.T d) none) Set.univ (Prog.lift (.customCall (SparseCore.inner (Pipeline.entry 0)) ())) Φ :=
  (K (F := F)).wp_liftProg (D (F := F)) 𝒱 (SparseCore.T d) Set.univ none _ Φ

/-- The region's own step, in the pipeline's labels. -/
theorem region_wp [∀ e, Nonempty (Elt F e)] (En : Dev nD → Valuation τ sig (Elt F)) (d : Dev nD) (Φ : PUnit.{1} → sProp 𝕄) :
    iprop((iprop(boundary (SparseCore.T d) ∗ (held (SparseCore.T d) (ucRefs τ sig) (afterRegion (dat En d) (En d))
            ∗ Pipeline.owesWithin d ((K (F := F)).Otc d 0) (recd (F := F) d)))
          -∗ wp frame (wpE (D (F := F)) 𝒱 (SparseCore.T d) none) Set.univ (Prog.ret PUnit.unit : Prog (TpuEff nD τ sig (Elt F) (ΛP (F := F)) .tc) PUnit) Φ)
        ∗ boundary (SparseCore.T d) ∗ (held (SparseCore.T d) (ucRefs τ sig) (En d) ∗ Pipeline.owesWithin d ((K (F := F)).Otc d 0) (recd (F := F) d))
        ∗ levAts (K (F := F)).L (K (F := F)).lev
        ∗ Pipeline.cellsGhost (pc (F := F)) EP 0 d ∗ Pipeline.toksInit (pc (F := F)) EP 0 d)
      ⊢ (wp frame (wpE (D (F := F)) 𝒱 (SparseCore.T d) none) Set.univ (Prog.lift (.customCall (Pipeline.entry 0) ()) : Prog (TpuEff nD τ sig (Elt F) (ΛP (F := F)) .tc) PUnit) Φ : sProp 𝕄) :=
  Pipeline.RegionSeg.wp (pcfgs (F := F)) adm (pdats En) none cellOf_inj EP defs₀ 𝒱₀ (K (F := F)).L (K (F := F)).lev (reg En) d none (fun _ h => nomatch h) Prog.ret Φ

/-- The TensorCore call's step: from every unscoped buffer at a valuation to them after the region. -/
theorem region_step [∀ e, Nonempty (Elt F e)] (κ : GSem nD τ sig → ℕ) (A : CallIn F) (En : Dev nD → Valuation τ sig (Elt F)) (d : Dev nD) (Φ : PUnit.{1} → sProp 𝕄) :
    iprop((K (F := F)).ctx EH (P A) κ ∗ boundary (SparseCore.T d) ∗ held (SparseCore.T d) (ucRefs τ sig) (En d) ∗ (K (F := F)).tcSt EH d 0 ∗ ghost d
        ∗ ((boundary (SparseCore.T d) ∗ held (SparseCore.T d) (ucRefs τ sig) (afterRegion (dat En d) (En d)) ∗ (K (F := F)).tcSt EH d 0) -∗ Φ ⟨⟩))
      ⊢ wp frame (wpE ((K (F := F)).defs (D (F := F))) 𝒱 (SparseCore.T d) none) Set.univ (Prog.lift (.customCall (SparseCore.inner (Pipeline.entry 0)) ())) Φ := by
  unfold SparseCore.Cfg.tcSt ghost
  iintro ⟨#Hctx, Hb, Hh, ⟨⟨%W, %hW, HO⟩, Hst⟩, ⟨Hc, Ht⟩, Hk⟩
  iapply (call_lift d Φ)
  iapply (region_wp En d Φ)
  isplitr [Hb Hh HO Hc Ht]
  · iintro ⟨Hb, Hpost⟩
    icases Hpost with ⟨Hh, HO⟩
    rw [wp_ret]
    imodintro
    iapply Hk
    isplitl [Hb]; · iexact Hb
    isplitl [Hh]; · iexact Hh
    isplitl [HO]
    · unfold Pipeline.owesWithin
      icases HO with ⟨%W', %hW', HO⟩
      iexists W'
      isplitr
      · ipureintro; exact fun p hp => hW' hp
      iexact HO
    iexact Hst
  isplitl [Hb]; · iexact Hb
  isplitl [Hh HO]
  · isplitl [Hh]; · iexact Hh
    unfold Pipeline.owesWithin
    iexists W
    isplitr
    · ipureintro; exact fun p hp => hW p hp
    iexact HO
  isplitr
  · iapply ((K (F := F)).ctx_levAts κ); iexact Hctx
  isplitl [Hc]; · iexact Hc
  iexact Ht

variable (ρ : Dev nD → PrngReg)

abbrev FIN (d : Dev nD) : sProp 𝕄 := held (SparseCore.T d) (ucRefs τ sig) (V5 m d)

/-- @main on a device's TensorCore: every unscoped buffer ends as the valuations say. -/
theorem hmain [∀ e, Nonempty (Elt F e)] (κ : GSem nD τ sig → ℕ) (d : Dev nD) :
    iprop((K (F := F)).ctx EH (P (callIn m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (ucRefs τ sig) (launchContents m d) from
    Pipeline.unscopedBufs_held d (launchContents m d)]
  iintro ⟨#Hctx, Hst, ⟨Hb, Hh, Hts, -⟩, Hg⟩
  iapply (StableHlo.wp_seq 𝒱 none Set.univ d (ucRefs τ sig) _ ops1 ops1_sub ops1_fresh (launchContents m d)) $$ [Hb Hh]
  · isplitl [Hb]; · iexact Hb
    iexact Hh
  iintro ⟨Hb, Hh⟩
  rw [wp_bind]
  iapply (region_step κ (callIn m) (V1 m) d _)
  isplitr; · iexact Hctx
  isplitl [Hb]; · iexact Hb
  isplitl [Hh]; · iexact Hh
  isplitl [Hst]; · iexact Hst
  isplitl [Hg]; · iexact Hg
  iintro ⟨Hb, Hh, Hst⟩
  iapply (StableHlo.wp_seq 𝒱 none Set.univ d (ucRefs τ sig) _ ops2 ops2_sub ops2_fresh (V2 m d)) $$ [Hb Hh]
  · isplitl [Hb]; · iexact Hb
    iexact Hh
  iintro ⟨Hb, Hh⟩
  rw [wp_bind]
  ihave Hh' := (Entails.of_eq (held_V3 m d)) $$ Hh
  icases Hh' with ⟨Hcall, Hrest⟩
  iapply ((K (F := F)).wp_run (D (F := F)) 𝒱 (EH := EH) (P := P (callIn m)) κ d 0)
  isplitr; · iexact Hctx
  isplitl [Hst]; · iexact Hst
  isplitl [Hcall]
  · rw [st_eq, ← held_call3]; iexact Hcall
  iintro ⟨Hst, Hdn⟩
  ihave Hdn' := (Entails.of_eq ((dn_eq (callIn m) d).trans (held_call4 m d).symm)) $$ Hdn
  ihave Hh := (Entails.of_eq (StableHlo.held_sub_split (SparseCore.T d) callRefs_sub (V4 m d)).symm) $$ [Hdn' Hrest]
  · isplitl [Hdn']; · iexact Hdn'
    rw [held_rest]; iexact Hrest
  iapply (StableHlo.wp_seq 𝒱 none Set.univ d (ucRefs τ sig) _ ops3 ops3_sub ops3_fresh (V4 m d)) $$ [Hb Hh]
  · isplitl [Hb]; · iexact Hb
    iexact Hh
  iintro ⟨Hb, Hh⟩
  rw [wp_pure]
  imodintro
  isplitl [Hst]; · iexact Hst
  isplitl [Hh]; · iexact Hh
  isplitl [Hb]; · iexact Hb
  iexact Hts

/-- Every unscoped buffer of device `d` is at the final valuation. -/
def fq (d : Dev nD) (s' : Phys nD τ sig (Elt F)) : Prop := ∀ b ∈ ucRefs τ sig, s'.mem.mem (d, b) = V5 m d b

theorem hfin (d : Dev nD) (s' : Phys nD τ sig (Elt F)) : iprop(FIN m d ∗ SI s') ⊢ (⌜fq m d s'⌝ : sProp 𝕄) := by
  have h := Idealize.ShloMosaic.pointsTo_read_all (nD := nD) (Ix := HIx 1) (Name := ℕ) (U := UU) (Lvl := ℕ) (ucRefs τ sig) (fun b => (d, b)) (V5 m d) s'
  unfold FIN held
  iintro ⟨HF, HS⟩
  ihave H' := h $$ [HF HS]
  · isplitl [HF]; · iexact HF
    iexact HS
  icases H' with ⟨%h, -⟩
  ipureintro
  exact h

/-- What the program's run ends in. -/
def QC : PUnit × MemSt nD τ sig (Elt F) → Prop := fun r => (∀ d : Dev nD, ∀ b ∈ ucRefs τ sig, r.2.mem (d, b) = V5 m d b) ∧ r.2.sem = fun _ => 0

/-- The program runs, from any memory whose indices name rows of the padded table. -/
theorem run_main [∀ e, Nonempty (Elt F e)] (hI : ∀ d r, (wordAt ((callIn m).I d) r).toNat < 8200) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (callIn m)) (A := ∅) scFacts v₀
    (fun q hq => match q with | 0 => nomatch hq)
    (fun q _ => match q with | 0 => tileObl (callIn m) hI)
    (fun q _ => match q with | 0 => SparseCore.Cfg.VecSplit.of_plain (vecSplit (callIn m)))
    m ρ main ghost (FIN m) (u₀ (F := F)) (sep_elim_left.trans (hu₀ m)) (hmain m ρ) (fq m) (hfin m) (QC m) (fun _ h hz => ⟨h, hz⟩)

end Cert.Proof

end
-- ==== Proof.Indices.lean ====
/-
  What the TensorCore call leaves: the indices of all input rows, block by block.
-/
module

public import proofs.«01_k».proof.Proof.Main
public import Idealize.ShloMosaic.Lib.Pipeline.ValueKit
@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

open Idealize.ShloMosaic.TcCoe
open Idealize.ShloMosaic.StableHlo (held after launchContents)
open Idealize.ShloMosaic.Pipeline (arrRef arrRefs ucRefs afterRegion)

/-- The rows of block `t` of the input. -/
def inRows (Z : Vec F S65536x32 .f32) (t : ℕ) : Vec F S2048x32 .f32 := fun q => Z (Idealize.ShloMosaic.ValueIdx.ix2 ⟨(2048 * t + (q 0).val) % 65536, Nat.mod_lt _ (by decide)⟩ (q 1))

/-- The indices of all rows, a block of 2048 each. -/
def idxArr (Z : Vec F S65536x32 .f32) (w : Vec F S32x8192 .bf16) (n : Vec F S1x8192 .f32) (k : Vec F S1x8192 .f32) : IVec S32x1x2048 32 :=
  fun p => idxBlk (inRows Z (p 0).val) w n k (Idealize.ShloMosaic.ValueIdx.ix3 0 0 (p 2))

variable (En : Dev nD → Valuation τ sig (Elt F))

theorem emb0 (t : Fin cfg0.N) (q : S2048x32.Idx) : ((win0_0.blk t).view.emb q : S65536x32.Idx)
    = Idealize.ShloMosaic.ValueIdx.ix2 ⟨(2048 * t.val + (q 0).val) % 65536, Nat.mod_lt _ (by decide)⟩ (q 1) := by
  have ht : t.val < 32 := lt_of_lt_of_eq t.isLt (by decide)
  have hq : (q 0).val < 2048 := (q 0).isLt
  have hi : win0_0.index t 0 = t.val := by revert t; decide +kernel
  have hj : win0_0.index t 1 = 0 := by revert t; decide +kernel
  have h0 := win0_0.rect_emb_val t q 0
  have h1 := win0_0.rect_emb_val t q 1
  rw [hi] at h0
  rw [hj] at h1
  funext a
  refine Fin.ext ?_
  fin_cases a
  · refine h0.trans ?_
    change t.val * 2048 + (q 0).val = (2048 * t.val + (q 0).val) % 65536
    omega
  · refine h1.trans ?_
    change 0 * 32 + (q 1).val = (q 1).val
    omega

theorem emb1 (t : Fin cfg0.N) (q : S32x8192.Idx) : ((win0_1.blk t).view.emb q : S32x8192.Idx) = q := by
  have hi : ∀ a, win0_1.index t a = 0 := by revert t; decide +kernel
  funext a
  exact Fin.ext (win0_1.rect_emb_val_of_index_zero t a (hi a) q)

theorem emb2 (t : Fin cfg0.N) (q : S1x8192.Idx) : ((win0_2.blk t).view.emb q : S1x8192.Idx) = q := by
  have hi : ∀ a, win0_2.index t a = 0 := by revert t; decide +kernel
  funext a
  exact Fin.ext (win0_2.rect_emb_val_of_index_zero t a (hi a) q)

theorem emb3 (t : Fin cfg0.N) (q : S1x8192.Idx) : ((win0_3.blk t).view.emb q : S1x8192.Idx) = q := by
  have hi : ∀ a, win0_3.index t a = 0 := by revert t; decide +kernel
  funext a
  exact Fin.ext (win0_3.rect_emb_val_of_index_zero t a (hi a) q)

theorem emb4 (t : Fin cfg0.N) (q : S1x1x2048.Idx) : ((win0_4.blk t).view.emb q : S32x1x2048.Idx)
    = Idealize.ShloMosaic.ValueIdx.ix3 ⟨t.val, lt_of_lt_of_eq t.isLt (by decide)⟩ 0 (q 2) := by
  have hi : win0_4.index t 0 = t.val := by revert t; decide +kernel
  have hj : win0_4.index t 1 = 0 := by revert t; decide +kernel
  have hk : win0_4.index t 2 = 0 := by revert t; decide +kernel
  have h0 := win0_4.rect_emb_val t q 0
  have h1 := win0_4.rect_emb_val t q 1
  have h2 := win0_4.rect_emb_val t q 2
  have q0 : (q 0).val < 1 := (q 0).isLt
  have q1 : (q 1).val < 1 := (q 1).isLt
  rw [hi] at h0
  rw [hj] at h1
  rw [hk] at h2
  funext a
  refine Fin.ext ?_
  fin_cases a
  · refine h0.trans ?_
    change t.val * 1 + (q 0).val = t.val
    omega
  · refine h1.trans ?_
    change 0 * 1 + (q 1).val = 0
    omega
  · refine h2.trans ?_
    change 0 * 2048 + (q 2).val = (q 2).val
    omega

theorem zBlk_eq (d : Dev nD) (t : Fin cfg0.N) : zBlk En d t = inRows (En d (Proc.devRef .tc main_v0)) t.val := by
  funext q
  exact congrArg (En d (Proc.devRef .tc main_v0)) (emb0 t q)

theorem wBlk_eq (d : Dev nD) (t : Fin cfg0.N) : wBlk En d t = En d (Proc.devRef .tc main_v4) := by
  funext q
  exact congrArg (En d (Proc.devRef .tc main_v4)) (emb1 t q)

theorem nBlk_eq (d : Dev nD) (t : Fin cfg0.N) : nBlk En d t = En d (Proc.devRef .tc main_v5) := by
  funext q
  exact congrArg (En d (Proc.devRef .tc main_v5)) (emb2 t q)

theorem kBlk_eq (d : Dev nD) (t : Fin cfg0.N) : kBlk En d t = En d (Proc.devRef .tc main_v7) := by
  funext q
  exact congrArg (En d (Proc.devRef .tc main_v7)) (emb3 t q)

/-- What the body leaves in the output's staging buffer at one grid point. -/
theorem after4 (d : Dev nD) (t : Fin cfg0.N) :
    (dat En d).after 4 t = idxBlk (zBlk En d t) (wBlk En d t) (nBlk En d t) (kBlk En d t) := rfl

/-- The TensorCore call's result array after the whole grid. -/
theorem arr8 (d : Dev nD) : (dat En d).arrAt 4 cfg0.N
    = idxArr (En d (Proc.devRef .tc main_v0)) (En d (Proc.devRef .tc main_v4)) (En d (Proc.devRef .tc main_v5)) (En d (Proc.devRef .tc main_v7)) := by
  refine (dat En d).arrAt_eq_of_covers 4 _ (by decide +kernel) fun t hf y => ?_
  blk_simp
  rw [after4, zBlk_eq, wBlk_eq, nBlk_eq, kBlk_eq]
  have y0 : (y 0).val < 1 := (y 0).isLt
  have y1 : (y 1).val < 1 := (y 1).isLt
  refine Eq.trans ?_ (congrArg (idxArr (En d (Proc.devRef .tc main_v0)) (En d (Proc.devRef .tc main_v4)) (En d (Proc.devRef .tc main_v5)) (En d (Proc.devRef .tc main_v7))) (emb4 t y)).symm
  refine congrArg (idxBlk (inRows (En d (Proc.devRef .tc main_v0)) t.val) (En d (Proc.devRef .tc main_v4)) (En d (Proc.devRef .tc main_v5)) (En d (Proc.devRef .tc main_v7))) ?_
  funext a
  refine Fin.ext ?_
  fin_cases a
  · change (y 0).val = 0
    omega
  · change (y 1).val = 0
    omega
  · rfl

end Cert.Proof

end
-- ==== Proof.Words.lean ====
/-
  The index a row of a block is given, read off the kernel's floating-point numbers of positions.
-/
module

public import proofs.«01_k».proof.Proof.Region
public import Idealize.ShloMosaic.Lib.Pipeline.ValueKit
public import Idealize.ShloMosaic.Lib.ValueLayout
public import Idealize.ShloMosaic.Lib.NatWordsOrder
public import Idealize.ShloMosaic.PureOps.Ideal.Laws
public import Idealize.ShloMosaic.PureOps.BitExact.Laws
@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

/-- What the proof asks of an instance's floats about small natural numbers: they are told apart by `minimumf` and by the
    conversion to integers, and the printed constants and the position row are among them. -/
class Counts (F : FTy → Type) [FloatOps F] where
  /-- The float of a natural number. -/
  num : ℕ → F .f32
  /-- `minimumf` is commutative. -/
  comm : Std.Commutative (FloatOps.minimumf (F := F) (φ := .f32))
  /-- `minimumf` is associative. -/
  assoc : Std.Associative (FloatOps.minimumf (F := F) (φ := .f32))
  /-- The minimum from plus infinity of the floats of small naturals is that of the least of them. -/
  least : ∀ f : Fin 4096 → ℕ, (∀ i, f i ≤ 8192) →
    ∃ i, (Finset.univ : Finset (Fin 4096)).fold (FloatOps.minimumf (F := F) (φ := .f32)) (FloatOps.ofBits .f32 0x7F800000#32) (fun i => num (f i)) = num (f i)
      ∧ ∀ j, f i ≤ f j
  /-- The float of a small natural converts to its word. -/
  toWord : ∀ n, n ≤ 8192 → FloatOps.fptosi (F := F) (φ := .f32) 32 (num n) = BitVec.ofNat 32 n
  /-- The printed constant that stands for no position. -/
  none_eq : FloatOps.ofBits (F := F) .f32 0x46000000#32 = num 8192
  /-- The word of a position converts to its float. -/
  ofWord : ∀ n, n < 8192 → FloatOps.sitofp (F := F) .f32 (BitVec.ofNat 32 n) = num n

attribute [local instance] Counts.comm Counts.assoc

instance : Counts Bits where
  num := Bits.f32OfNat
  comm := inferInstance
  assoc := inferInstance
  least f hf := by
    have h := Bits.fold_minimumf_positiveInfinity_nat (Finset.univ : Finset (Fin 4096)) ⟨0, Finset.mem_univ _⟩ f
      (fun i _ => le_trans (hf i) (by norm_num))
    obtain ⟨h1, h2, h3⟩ := Bits.fold_min_spec (Finset.univ : Finset (Fin 4096)) f (2 ^ 24)
    rcases h3 with h3 | ⟨i, -, h3⟩
    · exfalso
      have := h2 0 (Finset.mem_univ _)
      have := hf 0
      rw [h3] at *
      omega
    · exact ⟨i, h.trans (congrArg Bits.f32OfNat h3), fun j => h3 ▸ h2 j (Finset.mem_univ _)⟩
  toWord n hn := Bits.fptosi32_nat n (lt_of_le_of_lt hn (by norm_num))
  none_eq := by
    refine Eq.symm ((Bits.f32OfNat_eq 8192 (by norm_num)).trans ?_)
    decide +kernel
  ofWord n hn := Bits.sitofp32_ofNat (lt_trans hn (by norm_num))

/-- At the extended reals the minimum of a nonempty family of naturals from plus infinity is one of them. -/
theorem ideal_least (s : Finset (Fin 4096)) (hs : s.Nonempty) (f : Fin 4096 → ℕ) :
    ∃ i ∈ s, s.fold min (⊤ : EReal) (fun i => ((f i : ℝ) : EReal)) = ((f i : ℝ) : EReal) ∧ ∀ j ∈ s, f i ≤ f j := by
  obtain ⟨i, hi, hm⟩ := s.exists_min_image f hs
  refine ⟨i, hi, le_antisymm ?_ ?_, hm⟩
  · exact (Finset.fold_min_le _).2 (Or.inr ⟨i, hi, le_refl _⟩)
  · refine (Finset.le_fold_min _).2 ⟨le_top, fun j hj => ?_⟩
    exact EReal.coe_le_coe_iff.2 (Nat.cast_le.2 (hm j hj))

instance : Counts Ideal where
  num n := ((n : ℝ) : EReal)
  comm := inferInstance
  assoc := inferInstance
  least f hf := by
    obtain ⟨i, -, h, hm⟩ := ideal_least Finset.univ ⟨0, Finset.mem_univ _⟩ f
    refine ⟨i, Eq.trans ?_ h, fun j => hm j (Finset.mem_univ _)⟩
    have : Ideal.ofBits .f32 0x7F800000#32 = ⊤ := by simp [Ideal.ofBits, Ideal.ieee]
    change (Finset.univ : Finset (Fin 4096)).fold min (Ideal.ofBits .f32 0x7F800000#32) _ = _
    rw [this]
  toWord n hn := by
    change BitVec.ofInt 32 (Ideal.toIntClamped _ _ ((n : ℝ) : EReal)) = _
    rw [Ideal.toIntClamped_coe, if_pos (Nat.cast_nonneg n), Int.floor_natCast]
    have h1 : min (((2 ^ (32 - 1) : ℕ) : ℤ) - 1) (n : ℤ) = n := min_eq_right (by norm_num; omega)
    have h2 : max (-((2 ^ (32 - 1) : ℕ) : ℤ)) (n : ℤ) = n := max_eq_right (by norm_num)
    rw [h1, h2, BitVec.ofInt_natCast]
  none_eq := by
    change Ideal.ofBits .f32 0x46000000#32 = _
    simp [Ideal.ofBits, Ideal.ieee]
    rw [← EReal.coe_mul]
    norm_num
  ofWord n hn := by
    change (((BitVec.ofNat 32 n).toInt : ℝ) : EReal) = _
    have : (BitVec.ofNat 32 n).toInt = n := by
      rw [BitVec.toInt_eq_toNat_of_lt (by rw [BitVec.toNat_ofNat]; omega), BitVec.toNat_ofNat, Nat.mod_eq_of_lt (by omega)]
    rw [this]
    norm_num

/-! ## Reading the kernel's layout steps -/

theorem colCast (x : FVec F S2048 .f32) (r : Fin 2048) : shapeCast S2048x1 x shapeCasts_S2048_S2048x1 (ValueIdx.ix2 r 0) = x (ValueIdx.ix1 r) :=
  shapeCast_apply x _ _ _ (by
    rw [Shape.rowMajor_val_one, Shape.rowMajor_val_two]
    change r.val = r.val * 1 + 0
    omega)

theorem rowCast (x : FVec F S2048x1 .f32) (r : Fin 2048) : shapeCast S2048 x shapeCasts_S2048x1_S2048 (ValueIdx.ix1 r) = x (ValueIdx.ix2 r 0) :=
  shapeCast_apply x _ _ _ (by
    rw [Shape.rowMajor_val_one, Shape.rowMajor_val_two]
    change r.val * 1 + 0 = r.val
    omega)

theorem outCast (x : IVec S2048 32) (r : Fin 2048) : shapeCast S1x1x2048 x shapeCasts_S2048_S1x1x2048 (ValueIdx.ix3 0 0 r) = x (ValueIdx.ix1 r) :=
  shapeCast_apply x _ _ _ (by
    rw [Shape.rowMajor_val_one, Shape.rowMajor_val_three]
    change r.val = (0 * 1 + 0) * 2048 + r.val
    omega)

theorem colSpread (x : FVec F S2048x1 .f32) (r : Fin 2048) (j : Fin 4096) :
    broadcastTo S2048x4096 x broadcasts_S2048x1_S2048x4096 (ValueIdx.ix2 r j) = x (ValueIdx.ix2 r 0) :=
  broadcastTo_apply x _ _ _ fun a => by match a with | ⟨0, _⟩ => rfl | ⟨1, _⟩ => rfl

theorem rowSpread (x : FVec F S1x4096 .f32) (r : Fin 2048) (j : Fin 4096) :
    broadcastTo S2048x4096 x broadcasts_S1x4096_S2048x4096 (ValueIdx.ix2 r j) = x (ValueIdx.ix2 0 j) :=
  broadcastTo_apply x _ _ _ fun a => by match a with | ⟨0, _⟩ => rfl | ⟨1, _⟩ => rfl

/-- A position in the lower half of the table. -/
def loPos (j : Fin 4096) : Fin 8192 := ⟨j.val, by have := j.isLt; omega⟩

/-- A position in the upper half of the table. -/
def hiPos (j : Fin 4096) : Fin 8192 := ⟨4096 + j.val, by have := j.isLt; omega⟩

theorem loSlice (x : FVec F S2048x8192 .f32) (r : Fin 2048) (j : Fin 4096) :
    extractStridedSlice S2048x4096 ![0, 0] x slices_S2048x8192_o0_0_S2048x4096 (ValueIdx.ix2 r j) = x (ValueIdx.ix2 r (loPos j)) :=
  extractStridedSlice_apply _ x _ _ _ fun a => by
    match a with
    | ⟨0, _⟩ => exact (Nat.zero_add _).symm
    | ⟨1, _⟩ => exact (Nat.zero_add _).symm

theorem hiSlice (x : FVec F S2048x8192 .f32) (r : Fin 2048) (j : Fin 4096) :
    extractStridedSlice S2048x4096 ![0, 4096] x slices_S2048x8192_o0_4096_S2048x4096 (ValueIdx.ix2 r j) = x (ValueIdx.ix2 r (hiPos j)) :=
  extractStridedSlice_apply _ x _ _ _ fun a => by
    match a with
    | ⟨0, _⟩ => exact (Nat.zero_add _).symm
    | ⟨1, _⟩ => rfl

theorem loRow (x : FVec F S1x8192 .f32) (j : Fin 4096) :
    extractStridedSlice S1x4096 ![0, 0] x slices_S1x8192_o0_0_S1x4096 (ValueIdx.ix2 0 j) = x (ValueIdx.ix2 0 (loPos j)) :=
  extractStridedSlice_apply _ x _ _ _ fun a => by
    match a with
    | ⟨0, _⟩ => rfl
    | ⟨1, _⟩ => exact (Nat.zero_add _).symm

theorem hiRow (x : FVec F S1x8192 .f32) (j : Fin 4096) :
    extractStridedSlice S1x4096 ![0, 4096] x slices_S1x8192_o0_4096_S1x4096 (ValueIdx.ix2 0 j) = x (ValueIdx.ix2 0 (hiPos j)) :=
  extractStridedSlice_apply _ x _ _ _ fun a => by
    match a with
    | ⟨0, _⟩ => rfl
    | ⟨1, _⟩ => rfl

theorem lift_row (r : Fin 2048) (j : Fin 4096) : reduces_S2048x4096_S2048.lift (ValueIdx.ix1 r) j = ValueIdx.ix2 r j := by
  funext a
  match a with
  | ⟨0, _⟩ => exact Fin.ext rfl
  | ⟨1, _⟩ => exact Fin.ext rfl

section Row
variable [Counts F]

/-- The minimum along a row of a half, as a fold over its 4096 positions. -/
theorem halfMin (x : FVec F S2048x4096 .f32) (r : Fin 2048) :
    multiReduction .minimumf [1] S2048 x 0x7F800000#32 reduces_S2048x4096_S2048 (.inl rfl) rfl (ValueIdx.ix1 r)
      = ((Finset.univ : Finset (Fin 4096)).fold (FloatOps.minimumf (F := F) (φ := .f32)) (FloatOps.ofBits .f32 0x7F800000#32) (fun j => x (ValueIdx.ix2 r j))) := by
  refine (multiReduction_minimumf_eq_fold x 0x7F800000#32 reduces_S2048x4096_S2048 (.inl rfl) rfl (ValueIdx.ix1 r)).trans ?_
  refine (reduces_S2048x4096_S2048.fold_filter_drop_single _ _ x (ValueIdx.ix1 r)).trans ?_
  exact congrArg (Finset.fold _ _ · Finset.univ) (funext fun j => congrArg x (lift_row r j))

variable (z : Vec F S2048x32 .f32) (w : Vec F S32x8192 .bf16) (n : Vec F S1x8192 .f32) (k : Vec F S1x8192 .f32)

/-- The score of a row against a table row. -/
def score (r : Fin 2048) (j : Fin 8192) : F .f32 := k0_pay2 z w n (ValueIdx.ix2 r j)

/-- The least score of a row over the positions `p` names. -/
def least (p : Fin 4096 → Fin 8192) (r : Fin 2048) : F .f32 :=
  (Finset.univ : Finset (Fin 4096)).fold (FloatOps.minimumf (F := F) (φ := .f32)) (FloatOps.ofBits .f32 0x7F800000#32) (fun j => score z w n r (p j))

/-- The position, or 8192 where its score is not the least. -/
def posOr (p : Fin 4096 → Fin 8192) (r : Fin 2048) (j : Fin 4096) : ℕ :=
  if FloatOps.cmpf .oeq (score z w n r (p j)) (least z w n p r) = 1#1 then (p j).val else 8192

theorem posOr_le (p : Fin 4096 → Fin 8192) (r : Fin 2048) (j : Fin 4096) : posOr z w n p r j ≤ 8192 := by
  unfold posOr
  split
  · exact le_of_lt (p j).isLt
  · exact le_refl _

theorem dist3_at (r : Fin 2048) (j : Fin 4096) : k0_pay3 z w n (ValueIdx.ix2 r j) = score z w n r (loPos j) := by
  unfold k0_pay3
  exact loSlice _ r j
theorem dist4_at (r : Fin 2048) (j : Fin 4096) : k0_pay4 z w n (ValueIdx.ix2 r j) = score z w n r (hiPos j) := by
  unfold k0_pay4
  exact hiSlice _ r j

theorem dist5_at (r : Fin 2048) : k0_pay5 z w n (ValueIdx.ix2 r 0) = least z w n loPos r := by
  unfold k0_pay5
  refine (colCast _ r).trans ((halfMin _ r).trans ?_)
  exact congrArg (Finset.fold _ _ · Finset.univ) (funext fun j => dist3_at z w n r j)

theorem dist6_at (r : Fin 2048) : k0_pay6 z w n (ValueIdx.ix2 r 0) = least z w n hiPos r := by
  unfold k0_pay6
  refine (colCast _ r).trans ((halfMin _ r).trans ?_)
  exact congrArg (Finset.fold _ _ · Finset.univ) (funext fun j => dist4_at z w n r j)

theorem dist7_eq : k0_pay7 k = k := shapeCast_self _ _

/-- A choice by a one-bit word between the float of a position and that of 8192. -/
theorem select_num (c : BitVec 1) (a : ℕ) : Scalar.select c (Counts.num (F := F) a) (FloatOps.ofBits .f32 0x46000000#32)
    = Counts.num (if c = 1#1 then a else 8192) := by
  rw [Counts.none_eq]
  unfold Scalar.select
  by_cases h : c = 1#1 <;> simp [h]

variable (hk : ∀ j : Fin 8192, k (ValueIdx.ix2 0 j) = Counts.num j.val)
include hk

theorem dist8_at (r : Fin 2048) : ∃ i, k0_pay8 z w n k (ValueIdx.ix1 r) = Counts.num (posOr z w n loPos r i) ∧ ∀ j, posOr z w n loPos r i ≤ posOr z w n loPos r j := by
  obtain ⟨i, h, hm⟩ := Counts.least (F := F) (posOr z w n loPos r) (posOr_le z w n loPos r)
  refine ⟨i, Eq.trans ?_ h, hm⟩
  unfold k0_pay8
  refine (halfMin _ r).trans ?_
  refine congrArg (Finset.fold _ _ · Finset.univ) (funext fun j => ?_)
  refine Eq.trans ?_ (select_num _ _)
  refine congr (congrArg₂ Scalar.select (congrArg₂ (FloatOps.cmpf .oeq) (dist3_at z w n r j) ((colSpread _ r j).trans (dist5_at z w n r))) ?_) rfl
  refine (rowSpread _ r j).trans ?_
  rw [shapeCast_self]
  refine (loRow _ j).trans ?_
  rw [dist7_eq]
  exact hk (loPos j)

theorem dist9_at (r : Fin 2048) : ∃ i, k0_pay9 z w n k (ValueIdx.ix1 r) = Counts.num (posOr z w n hiPos r i) ∧ ∀ j, posOr z w n hiPos r i ≤ posOr z w n hiPos r j := by
  obtain ⟨i, h, hm⟩ := Counts.least (F := F) (posOr z w n hiPos r) (posOr_le z w n hiPos r)
  refine ⟨i, Eq.trans ?_ h, hm⟩
  unfold k0_pay9
  refine (halfMin _ r).trans ?_
  refine congrArg (Finset.fold _ _ · Finset.univ) (funext fun j => ?_)
  refine Eq.trans ?_ (select_num _ _)
  refine congr (congrArg₂ Scalar.select (congrArg₂ (FloatOps.cmpf .oeq) (dist4_at z w n r j) ((colSpread _ r j).trans (dist6_at z w n r))) ?_) rfl
  refine (rowSpread _ r j).trans ?_
  rw [shapeCast_self]
  refine (hiRow _ j).trans ?_
  rw [dist7_eq]
  exact hk (hiPos j)

/-- Whether the upper half's least score is below the lower half's, rounded as the kernel rounds it. -/
def upper (r : Fin 2048) : BitVec 1 :=
  FloatOps.cmpf .olt (least z w n hiPos r) (FloatOps.extf (F := F) .f32 bitsLt_bf16_f32 (FloatOps.truncf (F := F) .bf16 bitsLt_bf16_f32 (least z w n loPos r)))

/-- The index of a row of a block: the first position of its half's least score, or 8192 where no score is its half's least. -/
theorem idxBlk_at (r : Fin 2048) : ∃ i₁ i₂, idxBlk z w n k (ValueIdx.ix3 0 0 r)
      = BitVec.ofNat 32 (if upper z w n r = 1#1 then posOr z w n hiPos r i₂ else posOr z w n loPos r i₁)
    ∧ (∀ j, posOr z w n loPos r i₁ ≤ posOr z w n loPos r j) ∧ (∀ j, posOr z w n hiPos r i₂ ≤ posOr z w n hiPos r j) := by
  obtain ⟨i₁, h₁, m₁⟩ := dist8_at z w n k hk r
  obtain ⟨i₂, h₂, m₂⟩ := dist9_at z w n k hk r
  refine ⟨i₁, i₂, ?_, m₁, m₂⟩
  unfold idxBlk k0_pay1
  refine (outCast _ r).trans ?_
  have hs : ∀ c : BitVec 1, Scalar.select c (Counts.num (F := F) (posOr z w n hiPos r i₂)) (Counts.num (posOr z w n loPos r i₁))
      = Counts.num (if c = 1#1 then posOr z w n hiPos r i₂ else posOr z w n loPos r i₁) := by
    intro c
    unfold Scalar.select
    by_cases h : c = 1#1 <;> simp [h]
  have e : Scalar.select (FloatOps.cmpf .olt (shapeCast S2048 (k0_pay6 z w n) shapeCasts_S2048x1_S2048 (ValueIdx.ix1 r))
        (FloatOps.extf (F := F) .f32 bitsLt_bf16_f32 (FloatOps.truncf (F := F) .bf16 bitsLt_bf16_f32 (k0_pay10 z w n (ValueIdx.ix1 r))))) (k0_pay9 z w n k (ValueIdx.ix1 r)) (k0_pay8 z w n k (ValueIdx.ix1 r))
      = Counts.num (if upper z w n r = 1#1 then posOr z w n hiPos r i₂ else posOr z w n loPos r i₁) := by
    rw [h₁, h₂, hs, rowCast, dist6_at]
    unfold k0_pay10
    rw [rowCast, dist5_at]
    rfl
  refine (congrArg (FloatOps.fptosi (F := F) (φ := .f32) 32) e).trans (Counts.toWord _ ?_)
  split
  · exact posOr_le ..
  · exact posOr_le ..

/-- Every index is at most 8192. -/
theorem idxBlk_le (q : S1x1x2048.Idx) : (idxBlk z w n k q).toNat ≤ 8192 := by
  have q0 : (q 0).val < 1 := (q 0).isLt
  have q1 : (q 1).val < 1 := (q 1).isLt
  have hq : q = ValueIdx.ix3 0 0 (q 2) := by
    funext a
    match a with
    | ⟨0, _⟩ => exact Fin.ext (by change (q 0).val = 0; omega)
    | ⟨1, _⟩ => exact Fin.ext (by change (q 1).val = 0; omega)
    | ⟨2, _⟩ => rfl
  obtain ⟨i₁, i₂, h, -, -⟩ := idxBlk_at z w n k hk (q 2)
  have a1 := posOr_le z w n loPos (q 2) i₁
  have a2 := posOr_le z w n hiPos (q 2) i₂
  refine le_trans (le_of_eq (congrArg BitVec.toNat ((congrArg (idxBlk z w n k) hq).trans h))) ?_
  rw [BitVec.toNat_ofNat]
  refine le_trans (Nat.mod_le _ _) ?_
  split <;> assumption

end Row

end Cert.Proof

end
-- ==== Proof.Values.lean ====
/-
  What the program's buffers hold, read off the run: the values before, between and after the two calls.
-/
module

public import proofs.«01_k».proof.Proof.Indices
public import proofs.«01_k».proof.Proof.Words
public import Idealize.ShloMosaic.Lib.Claim
public import Idealize.ShloMosaic.Lib.StableHlo.Run
@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

open Idealize.ShloMosaic.TcCoe
open Idealize.ShloMosaic.StableHlo (held after launchContents)
open Idealize.ShloMosaic.Pipeline (arrRef arrRefs ucRefs afterRegion)

variable (m : (ℓ : Loc nD τ sig) → Buf (Elt F) ℓ) (d : Dev nD)

/-- The input array as launched. -/
abbrev zIn : Vec F S64x1024x32 .f32 := m (d, Proc.devRef .tc main_arg0)

/-- The table as launched. -/
abbrev tIn : Vec F S8192x32 .f32 := m (d, Proc.devRef .tc main_arg1)

/-- The input's rows. -/
def flat : Vec F S65536x32 .f32 := shapeCast S65536x32 (zIn m d) shapeCasts_S64x1024x32_S65536x32

/-- The table transposed and narrowed. -/
def wT : Vec F S32x8192 .bf16 := truncf .bf16 (transpose S32x8192 [1, 0] (tIn m d) transposes_S8192x32_S32x8192_1_0) bitsLt_bf16_f32

/-- The squared norms of the table's rows, as one row. -/
def nRow : Vec F S1x8192 .f32 :=
  shapeCast S1x8192 (Host.reduceAdd (mulf (tIn m d) (tIn m d)) (constant S_ .f32 0x00000000#32) reducesTo_S8192x32_S8192_d1 h_S_) shapeCasts_S8192_S1x8192

/-- The positions of the table's rows, as one row. -/
def kRow : Vec F S1x8192 .f32 := shapeCast S1x8192 (sitofp .f32 (iotaInDim S8192 32 0)) shapeCasts_S8192_S1x8192

/-- The indices of all rows, by blocks. -/
def idx8 : IVec S32x1x2048 32 := idxArr (flat m d) (wT m d) (nRow m d) kRow

/-- The indices of all rows. -/
def idxs : IVec S65536 32 := shapeCast S65536 (idx8 m d) shapeCasts_S32x1x2048_S65536

/-- The table padded. -/
def padded : Vec F S8200x128 .f32 :=
  pad S8200x128 ![0, 0] ![8, 96] ![0, 0] (tIn m d) (sitofp .f32 (constantI S_ 32 0#32)) pads_S8192x32_S8200x128_080_0960 h_S_

/-! ## Before the TensorCore call -/

theorem V1_arg0 : V1 m d (Proc.devRef .tc main_arg0) = zIn m d := by
  unfold V1 ops1; after_results_simp
theorem V1_arg1 : V1 m d (Proc.devRef .tc main_arg1) = tIn m d := by
  unfold V1 ops1; after_results_simp
theorem V1_v0 : V1 m d (Proc.devRef .tc main_v0) = flat m d := by
  unfold V1 ops1; after_results_simp; rfl
theorem V1_v4 : V1 m d (Proc.devRef .tc main_v4) = wT m d := by
  unfold V1 ops1; after_results_simp; rfl
theorem V1_v5 : V1 m d (Proc.devRef .tc main_v5) = nRow m d := by
  unfold V1 ops1; after_results_simp; rfl
theorem V1_v7 : V1 m d (Proc.devRef .tc main_v7) = kRow := by
  unfold V1 ops1; after_results_simp; rfl

/-! ## Between the calls -/

theorem V2_v8 : V2 m d (Proc.devRef .tc main_v8) = idx8 m d := by
  refine (Pipeline.afterRegion_arr (dat (V1 m) d) (V1 m d) launch0.win.arr_inj 4).trans ?_
  rw [arr8, V1_v0, V1_v4, V1_v5, V1_v7]
  rfl
theorem V2_v0 : V2 m d (Proc.devRef .tc main_v0) = flat m d := by
  refine (Pipeline.afterRegion_arr (dat (V1 m) d) (V1 m d) launch0.win.arr_inj 0).trans ?_
  exact ((dat (V1 m) d).arrAt_in 0 rfl _).trans (V1_v0 m d)
theorem V2_arg0 : V2 m d (Proc.devRef .tc main_arg0) = zIn m d :=
  (Pipeline.afterRegion_of_not_arr (dat (V1 m) d) (V1 m d) (b := main_arg0) (by decide)).trans (V1_arg0 m d)
theorem V2_arg1 : V2 m d (Proc.devRef .tc main_arg1) = tIn m d :=
  (Pipeline.afterRegion_of_not_arr (dat (V1 m) d) (V1 m d) (b := main_arg1) (by decide)).trans (V1_arg1 m d)

theorem V3_arg0 : V3 m d (Proc.devRef .tc main_arg0) = zIn m d := by
  unfold V3 ops2; after_results_simp; exact V2_arg0 m d
theorem V3_arg1 : V3 m d (Proc.devRef .tc main_arg1) = tIn m d := by
  unfold V3 ops2; after_results_simp; exact V2_arg1 m d
theorem V3_v0 : V3 m d (Proc.devRef .tc main_v0) = flat m d := by
  unfold V3 ops2; after_results_simp; exact V2_v0 m d
theorem V3_v9 : V3 m d (Proc.devRef .tc main_v9) = idxs m d := by
  unfold V3 ops2; after_results_simp; rw [V2_v8]; rfl
theorem V3_v10 : V3 m d (Proc.devRef .tc main_v10) = padded m d := by
  unfold V3 ops2; after_results_simp; rw [V2_arg1]; rfl
theorem V3_v11 : V3 m d (Proc.devRef .tc main_v11) = shapeCast S512x128 (idxs m d) shapeCasts_S65536_S512x128 := by
  unfold V3 ops2; after_results_simp; rw [V2_v8]; rfl

/-! ## After the calls -/

theorem V5_arg0 : V5 m d (Proc.devRef .tc main_arg0) = zIn m d := by
  unfold V5 ops3; after_results_simp
  exact (V4_ne m d _ (by decide) (by decide)).trans (V3_arg0 m d)
theorem V5_arg1 : V5 m d (Proc.devRef .tc main_arg1) = tIn m d := by
  unfold V5 ops3; after_results_simp
  exact (V4_ne m d _ (by decide) (by decide)).trans (V3_arg1 m d)
theorem V5_v18 : V5 m d (Proc.devRef .tc main_v18) = shapeCast S64x1024 (idxs m d) shapeCasts_S65536_S64x1024 := by
  unfold V5 ops3; after_results_simp
  rw [V4_ne m d _ (by decide) (by decide), V3_v9]; rfl
theorem V5_v17 : V5 m d (Proc.devRef .tc main_v17) = shapeCast S64x1024x32 (outs (callIn m) d) shapeCasts_S65536x32_S64x1024x32 := by
  unfold V5 ops3; after_results_simp
  rw [V4_out]; rfl

/-- The mean of the squared differences out of the partial sums. -/
def meanOf (p : Vec F S32x16 .f32) : Vec F S_ .f32 :=
  Host.divf (Host.reduceAdd p (constant S_ .f32 0x00000000#32) reducesTo_S32x16_S_d0_1 h_S_) (constant S_ .f32 0x4A000000#32)

theorem V5_v16 : V5 m d (Proc.devRef .tc main_v16)
    = addf (meanOf (parts (callIn m) d)) (mulf (constant S_ .f32 0x3E800000#32) (meanOf (parts (callIn m) d))) := by
  unfold V5 ops3; after_results_simp
  rw [V4_part]; rfl

/-! ## The indices' range -/

theorem kRow_at [Counts F] (j : Fin 8192) : kRow (F := F) (ValueIdx.ix2 0 j) = Counts.num j.val := by
  unfold kRow
  refine (shapeCast_apply _ _ _ (ValueIdx.ix1 j) ?_).trans (Counts.ofWord j.val j.isLt)
  rw [Shape.rowMajor_val_one, Shape.rowMajor_val_two]
  change j.val = 0 * 8192 + j.val
  omega

theorem idx8_le [Counts F] (q : S32x1x2048.Idx) : (idx8 m d q).toNat ≤ 8192 :=
  idxBlk_le _ _ _ _ kRow_at _

theorem idxs_le [Counts F] (q : S65536.Idx) : (idxs m d q).toNat ≤ 8192 := idx8_le m d _

/-- Every index names a row of the padded table. -/
theorem index_range [Counts F] (r : ℕ) : (wordAt ((callIn m).I d) r).toNat < 8200 := by
  unfold wordAt
  change (V3 m d (Proc.devRef .tc main_v11) _).toNat < 8200
  rw [V3_v11]
  exact lt_of_le_of_lt (idxs_le m d _) (by norm_num)

/-- The program runs to the end, leaving the final values, at an instance whose floats tell small naturals apart. -/
theorem run_all (ρ : Dev nD → PrngReg) [∀ e, Nonempty (Elt F e)] [Counts F] :
    θ_run (Cert.KernelIdeal.defs (F := F)) (Cert.KernelIdeal.threads (F := F)) ⟨m, fun _ => 0, ρ⟩ (QC m) :=
  run_main m ρ fun d r => index_range m d r

end Cert.Proof

end
-- ==== Proof.Frames.lean ====
/-
  The frames: each program runs to the end, leaves its arguments as they were and every semaphore at zero.
-/
module

public import proofs.«01_k».proof.Proof.Values
public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- The printed program and its idealization run the same bodies. -/
theorem body_same : (@Cert.Kernel.defs F _ Cert.Kernel.Gen.facts) = (@Cert.KernelIdeal.defs F _ Cert.KernelIdeal.Gen.facts) := by chain_rfl

/-- The printed program and its idealization run the same threads. -/
theorem thr_same : (@Cert.Kernel.threads F _ Cert.Kernel.Gen.facts) = (@Cert.KernelIdeal.threads F _ Cert.KernelIdeal.Gen.facts) := by chain_rfl

/-- At every final state of the idealization the arguments are as they were and every semaphore reads zero. -/
theorem frame_ideal [∀ e, Nonempty (Elt F e)] [Counts F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (Cert.KernelIdeal.threads (F := F)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by
  refine Idealize.ShloMosaic.θ_run_mono (run_all m g) fun r hr => ⟨fun c => ⟨?_, ?_⟩, hr.2⟩
  · exact (hr.1 c _ (Pipeline.devRef_mem_ucRefs (b := Cert.KernelIdeal.main_arg0) rfl)).trans (V5_arg0 m c)
  · exact (hr.1 c _ (Pipeline.devRef_mem_ucRefs (b := Cert.KernelIdeal.main_arg1) rfl)).trans (V5_arg1 m c)

/-- The same of the printed program: it runs the idealization's bodies and threads. -/
theorem frame_printed [∀ e, Nonempty (Elt F e)] [Counts F]
    (m : (ℓ : Loc Cert.Kernel.nD Cert.Kernel.τ Cert.Kernel.sig) → Buf (Elt F) ℓ) (g : Dev Cert.Kernel.nD → PrngReg) :
    θ_run (Cert.Kernel.defs (F := F)) (Cert.Kernel.threads (F := F)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [body_same, thr_same]
  exact frame_ideal m g

end Cert.Proof

end
-- ==== Proof.Ref.lean ====
/-
  The reference's run: @main is host operations alone, so it runs to the values its operations compute.
-/
module

public import proofs.«01_k».proof.Proof.Gen.ReferenceIdeal
public import Idealize.ShloMosaic.Lib.Claim
public import Idealize.ShloMosaic.Lib.Pipeline.Frame

@[expose] public section

noncomputable section

namespace Cert.Proof

open Cert.ReferenceIdeal Cert.ReferenceIdeal.Gen
open Idealize.ShloMosaic Idealize.SL.Sem

variable {F : FTy → Type} [FloatOps F]

/-- The reference leaves its arguments as they were; no semaphore of its is there to be anything but zero. -/
theorem frame_reference (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine θ_run_mono (Q := fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ?_
    fun r hr => ⟨hr, funext fun x => ?_⟩
  · hlo_run
  · rcases x with ⟨_, s | s⟩ <;> exact s.elim0

/-! ## What the reference computes -/

section Values

variable (z : FVec F S64x1024x32 .f32) (W : FVec F S8192x32 .f32)

/-- The input's rows. -/
def rFlat : FVec F S65536x32 .f32 := shapeCast S65536x32 z shapeCasts_S64x1024x32_S65536x32

/-- The squared distances, without the rounding that a square would have: the two norms less twice the products. -/
def rDist : FVec F S65536x8192 .f32 :=
  subf
    (addf
      (broadcastInDim S65536x8192 ![0, 1] bcast_S65536x1_S65536x8192_0_1
        (broadcastInDim S65536x1 ![0] bcast_S65536_S65536x1_0
          (Host.reduceAdd (mulf (rFlat z) (rFlat z)) (constant S_ .f32 0x00000000#32) reducesTo_S65536x32_S65536_d1 h_S_)))
      (broadcastInDim S65536x8192 ![0, 1] bcast_S1x8192_S65536x8192_0_1
        (broadcastInDim S1x8192 ![1] bcast_S8192_S1x8192_1
          (Host.reduceAdd (mulf W W) (constant S_ .f32 0x00000000#32) reducesTo_S8192x32_S8192_d1 h_S_))))
    (mulf (broadcastInDim S65536x8192 ![] bcast_S_S65536x8192 (constant S_ .f32 0x40000000#32))
      (Host.dotGeneral dot_S65536x32_S32x8192_S65536x8192_1_0_0_1_n_n none (rFlat z)
        (transpose S32x8192 [1, 0] W transposes_S8192x32_S32x8192_1_0)))

/-- The index of each row's least of the distances `D`. -/
def rArg (D : FVec F S65536x8192 .f32) : IVec S65536 32 := fun j =>
  (Host.argReduce reducer_argmin_f32_i32 D (iotaInDim S65536x8192 32 1) (constant S_ .f32 0x7F800000#32)
    (constantI S_ 32 0#32) reducesTo_S65536x8192_S65536_d1 h_S_ j).2

/-- The index of each row's least distance. -/
def rIdx : IVec S65536 32 := rArg (rDist z W)

/-- The indices as `take` reads them: a negative one counts from the end. -/
def rAt (I : IVec S65536 32) : IVec S65536x1 32 :=
  broadcastInDim S65536x1 ![0] bcast_S65536_S65536x1_0
    (select (cmpi .slt I (broadcastInDim S65536 ![] bcast_S_S65536 (constantI S_ 32 0#32)))
      (addi I (broadcastInDim S65536 ![] bcast_S_S65536 (constantI S_ 32 8192#32))) I)

/-- The two comparisons of an index with the table's range. -/
def rCmp (A : IVec S65536x1 32) : IVec S65536x1 1 :=
  andi (cmpi .sge A (broadcastInDim S65536x1 ![] bcast_S_S65536x1 (constantI S_ 32 0#32)))
    (cmpi .sle A (broadcastInDim S65536x1 ![0, 1] bcast_S1x1_S65536x1_0_1
      (broadcastInDim S1x1 ![1] bcast_S1_S1x1_1 (constantI S1 32 8191#32))))

/-- Which of those indices name a row. -/
def rIn (I : IVec S65536 32) : IVec S65536 1 :=
  Host.reduce IntOp.andi (rCmp (rAt I)) (constantI S_ 1 1#1) reducesTo_S65536x1_S65536_d1 h_S_

/-- The table's rows at the indices `A`, not-a-number where `B` says that an index names none. -/
def rRows (A : IVec S65536x1 32) (B : IVec S65536 1) : FVec F S65536x32 .f32 :=
  select (broadcastInDim S65536x32 ![0] bcast_S65536_S65536x32_0 B)
    (Host.gather gather_S8192x32_S65536x1_S65536x32_1_0_n_n_0_1_132 W A)
    (broadcastInDim S65536x32 ![] bcast_S_S65536x32 (constant S_ .f32 0x7FC00000#32))

/-- The table's rows at the indices `I`. -/
def rTake (I : IVec S65536 32) : FVec F S65536x32 .f32 := rRows W (rAt I) (rIn I)

/-- The differences of the chosen rows from the input's. -/
def rDif (I : IVec S65536 32) : FVec F S65536x32 .f32 := subf (rTake W I) (rFlat z)

/-- The mean of the squares of an array of differences. -/
def rMean (D : FVec F S65536x32 .f32) : FVec F S_ .f32 :=
  Host.divf (Host.reduceAdd (mulf D D) (constant S_ .f32 0x00000000#32) reducesTo_S65536x32_S_d0_1 h_S_)
    (constant S_ .f32 0x4A000000#32)

/-- The loss of an array of differences. -/
def rLoss (D : FVec F S65536x32 .f32) : FVec F S_ .f32 := addf (rMean D) (mulf (constant S_ .f32 0x3E800000#32) (rMean D))

end Values

/-! ## The run, a stretch of operations at a time -/

open Idealize.ShloMosaic.StableHlo (after launchContents)

/-- The distances' operations. -/
abbrev refDist : List (HloOp τ sig (Elt F)) :=
  [StableHlo.reshape main_arg0 main_v0 (rfl : (.f32 : EltTy) = .f32) shapeCasts_S64x1024x32_S65536x32,
    StableHlo.binary main_v0 main_v0 main_v1 (mulf : (⟨S65536x32, .f32⟩ : BufTy).Contents (Elt F) → (⟨S65536x32, .f32⟩ : BufTy).Contents (Elt F) → (⟨S65536x32, .f32⟩ : BufTy).Contents (Elt F)),
    StableHlo.nullary main_cst (constant S_ .f32 0x00000000#32),
    StableHlo.binary main_v1 main_cst main_v2 ((fun x v => Host.reduceAdd x v reducesTo_S65536x32_S65536_d1 h_S_) : (⟨S65536x32, .f32⟩ : BufTy).Contents (Elt F) → (⟨S_, .f32⟩ : BufTy).Contents (Elt F) → (⟨S65536, .f32⟩ : BufTy).Contents (Elt F)),
    StableHlo.unary main_v2 main_v3 (broadcastInDim S65536x1 ![0] bcast_S65536_S65536x1_0 : (⟨S65536, .f32⟩ : BufTy).Contents (Elt F) → (⟨S65536x1, .f32⟩ : BufTy).Contents (Elt F)),
    StableHlo.binary main_arg1 main_arg1 main_v4 (mulf : (⟨S8192x32, .f32⟩ : BufTy).Contents (Elt F) → (⟨S8192x32, .f32⟩ : BufTy).Contents (Elt F) → (⟨S8192x32, .f32⟩ : BufTy).Contents (Elt F)),
    StableHlo.nullary main_cst_0 (constant S_ .f32 0x00000000#32),
    StableHlo.binary main_v4 main_cst_0 main_v5 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    StableHlo.unary main_v5 main_v6 (broadcastInDim S1x8192 ![1] bcast_S8192_S1x8192_1 : (⟨S8192, .f32⟩ : BufTy).Contents (Elt F) → (⟨S1x8192, .f32⟩ : BufTy).Contents (Elt F)),
    StableHlo.unary main_v3 main_v7 (broadcastInDim S65536x8192 ![0, 1] bcast_S65536x1_S65536x8192_0_1 : (⟨S65536x1, .f32⟩ : BufTy).Contents (Elt F) → (⟨S65536x8192, .f32⟩ : BufTy).Contents (Elt F)),
    StableHlo.unary main_v6 main_v8 (broadcastInDim S65536x8192 ![0, 1] bcast_S1x8192_S65536x8192_0_1 : (⟨S1x8192, .f32⟩ : BufTy).Contents (Elt F) → (⟨S65536x8192, .f32⟩ : BufTy).Contents (Elt F)),
    StableHlo.binary main_v7 main_v8 main_v9 (addf : (⟨S65536x8192, .f32⟩ : BufTy).Contents (Elt F) → (⟨S65536x8192, .f32⟩ : BufTy).Contents (Elt F) → (⟨S65536x8192, .f32⟩ : BufTy).Contents (Elt F)),
    StableHlo.unary main_arg1 main_v10 ((transpose S32x8192 [1, 0] · transposes_S8192x32_S32x8192_1_0) : (⟨S8192x32, .f32⟩ : BufTy).Contents (Elt F) → (⟨S32x8192, .f32⟩ : BufTy).Contents (Elt F)),
    StableHlo.binary main_v0 main_v10 main_v11 ((fun l r => Host.dotGeneral dot_S65536x32_S32x8192_S65536x8192_1_0_0_1_n_n none l r) : (⟨S65536x32, .f32⟩ : BufTy).Contents (Elt F) → (⟨S32x8192, .f32⟩ : BufTy).Contents (Elt F) → (⟨S65536x8192, .f32⟩ : BufTy).Contents (Elt F)),
    StableHlo.nullary main_cst_1 (constant S_ .f32 0x40000000#32),
    StableHlo.unary main_cst_1 main_v12 (broadcastInDim S65536x8192 ![] bcast_S_S65536x8192 : (⟨S_, .f32⟩ : BufTy).Contents (Elt F) → (⟨S65536x8192, .f32⟩ : BufTy).Contents (Elt F)),
    StableHlo.binary main_v12 main_v11 main_v13 (mulf : (⟨S65536x8192, .f32⟩ : BufTy).Contents (Elt F) → (⟨S65536x8192, .f32⟩ : BufTy).Contents (Elt F) → (⟨S65536x8192, .f32⟩ : BufTy).Contents (Elt F)),
    StableHlo.binary main_v9 main_v13 main_v14 (subf : (⟨S65536x8192, .f32⟩ : BufTy).Contents (Elt F) → (⟨S65536x8192, .f32⟩ : BufTy).Contents (Elt F) → (⟨S65536x8192, .f32⟩ : BufTy).Contents (Elt F))]

/-- The argmin's operations. -/
abbrev refArg : List (HloOp τ sig (Elt F)) :=
  [StableHlo.TRef.nullary main_call0.v0 (iotaInDim S65536x8192 32 1),
    StableHlo.TRef.nullary main_call0.cst (constant S_ .f32 0x7F800000#32),
    StableHlo.TRef.nullary main_call0.c (constantI S_ 32 0#32),
    StableHlo.TRef.quaternary (.of main_v14) main_call0.v0 main_call0.cst main_call0.c main_call0.v1_0 (fun x y u v j => (Host.argReduce reducer_argmin_f32_i32 x y u v reducesTo_S65536x8192_S65536_d1 h_S_ j).1),
    StableHlo.TRef.quaternary (.of main_v14) main_call0.v0 main_call0.cst main_call0.c main_call0.v1_1 (fun x y u v j => (Host.argReduce reducer_argmin_f32_i32 x y u v reducesTo_S65536x8192_S65536_d1 h_S_ j).2)]

/-- The operations that read the indices. -/
abbrev refAt : List (HloOp τ sig (Elt F)) :=
  [StableHlo.TRef.nullary main_call1.c (constantI S_ 32 0#32),
    StableHlo.TRef.unary main_call1.c main_call1.v0 (broadcastInDim S65536 ![] bcast_S_S65536),
    StableHlo.TRef.binary (.of main_v15) main_call1.v0 main_call1.v1 (cmpi .slt),
    StableHlo.TRef.nullary main_call1.c_0 (constantI S_ 32 8192#32),
    StableHlo.TRef.unary main_call1.c_0 main_call1.v2 (broadcastInDim S65536 ![] bcast_S_S65536),
    StableHlo.TRef.binary (.of main_v15) main_call1.v2 main_call1.v3 addi,
    StableHlo.TRef.ternary main_call1.v1 main_call1.v3 (.of main_v15) main_call1.call0.v0 select,
    StableHlo.TRef.unary main_call1.call0.v0 main_call1.v5 (broadcastInDim S65536x1 ![0] bcast_S65536_S65536x1_0)]

/-- The operations that compare the indices with the table's range. -/
abbrev refIn : List (HloOp τ sig (Elt F)) :=
  [StableHlo.TRef.nullary main_call1.c_1 (constantI S1 32 8191#32),
    StableHlo.TRef.nullary main_call1.c_2 (constantI S_ 32 0#32),
    StableHlo.TRef.unary main_call1.c_2 main_call1.v6 (broadcastInDim S65536x1 ![] bcast_S_S65536x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S65536x1 ![0, 1] bcast_S1x1_S65536x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1)]

/-- The conjunction of the two comparisons along an index's one word. -/
abbrev refAnd : List (HloOp τ sig (Elt F)) :=
  [StableHlo.TRef.binary main_call1.v11 main_call1.c_3 main_call1.v12 (fun x v => Host.reduce IntOp.andi x v reducesTo_S65536x1_S65536_d1 h_S_)]

/-- The operations that fetch the rows. -/
abbrev refTake : List (HloOp τ sig (Elt F)) :=
  [StableHlo.TRef.binary (.of main_arg1) main_call1.v5 main_call1.v13 (fun x i => Host.gather gather_S8192x32_S65536x1_S65536x32_1_0_n_n_0_1_132 x i),
    StableHlo.TRef.unary main_call1.v12 main_call1.v14 (broadcastInDim S65536x32 ![0] bcast_S65536_S65536x32_0),
    StableHlo.TRef.nullary main_call1.cst (constant S_ .f32 0x7FC00000#32),
    StableHlo.TRef.unary main_call1.cst main_call1.v15 (broadcastInDim S65536x32 ![] bcast_S_S65536x32),
    StableHlo.TRef.ternary main_call1.v14 main_call1.v13 main_call1.v15 main_call1.v16 select]

/-- The operations on the fetched rows. -/
abbrev refRest : List (HloOp τ sig (Elt F)) :=
  [StableHlo.binary main_v16 main_v0 main_v17 (subf : (⟨S65536x32, .f32⟩ : BufTy).Contents (Elt F) → (⟨S65536x32, .f32⟩ : BufTy).Contents (Elt F) → (⟨S65536x32, .f32⟩ : BufTy).Contents (Elt F)),
    StableHlo.binary main_v17 main_v17 main_v18 (mulf : (⟨S65536x32, .f32⟩ : BufTy).Contents (Elt F) → (⟨S65536x32, .f32⟩ : BufTy).Contents (Elt F) → (⟨S65536x32, .f32⟩ : BufTy).Contents (Elt F)),
    StableHlo.nullary main_cst_2 (constant S_ .f32 0x00000000#32),
    StableHlo.binary main_v18 main_cst_2 main_v19 ((fun x v => Host.reduceAdd x v reducesTo_S65536x32_S_d0_1 h_S_) : (⟨S65536x32, .f32⟩ : BufTy).Contents (Elt F) → (⟨S_, .f32⟩ : BufTy).Contents (Elt F) → (⟨S_, .f32⟩ : BufTy).Contents (Elt F)),
    StableHlo.nullary main_cst_3 (constant S_ .f32 0x4A000000#32),
    StableHlo.binary main_v19 main_cst_3 main_v20 (Host.divf : (⟨S_, .f32⟩ : BufTy).Contents (Elt F) → (⟨S_, .f32⟩ : BufTy).Contents (Elt F) → (⟨S_, .f32⟩ : BufTy).Contents (Elt F)),
    StableHlo.binary main_v16 main_v0 main_v21 (subf : (⟨S65536x32, .f32⟩ : BufTy).Contents (Elt F) → (⟨S65536x32, .f32⟩ : BufTy).Contents (Elt F) → (⟨S65536x32, .f32⟩ : BufTy).Contents (Elt F)),
    StableHlo.binary main_v21 main_v21 main_v22 (mulf : (⟨S65536x32, .f32⟩ : BufTy).Contents (Elt F) → (⟨S65536x32, .f32⟩ : BufTy).Contents (Elt F) → (⟨S65536x32, .f32⟩ : BufTy).Contents (Elt F)),
    StableHlo.nullary main_cst_4 (constant S_ .f32 0x00000000#32),
    StableHlo.binary main_v22 main_cst_4 main_v23 ((fun x v => Host.reduceAdd x v reducesTo_S65536x32_S_d0_1 h_S_) : (⟨S65536x32, .f32⟩ : BufTy).Contents (Elt F) → (⟨S_, .f32⟩ : BufTy).Contents (Elt F) → (⟨S_, .f32⟩ : BufTy).Contents (Elt F)),
    StableHlo.nullary main_cst_5 (constant S_ .f32 0x4A000000#32),
    StableHlo.binary main_v23 main_cst_5 main_v24 (Host.divf : (⟨S_, .f32⟩ : BufTy).Contents (Elt F) → (⟨S_, .f32⟩ : BufTy).Contents (Elt F) → (⟨S_, .f32⟩ : BufTy).Contents (Elt F)),
    StableHlo.nullary main_cst_6 (constant S_ .f32 0x3E800000#32),
    StableHlo.binary main_cst_6 main_v20 main_v25 (mulf : (⟨S_, .f32⟩ : BufTy).Contents (Elt F) → (⟨S_, .f32⟩ : BufTy).Contents (Elt F) → (⟨S_, .f32⟩ : BufTy).Contents (Elt F)),
    StableHlo.binary main_v24 main_v25 main_v26 (addf : (⟨S_, .f32⟩ : BufTy).Contents (Elt F) → (⟨S_, .f32⟩ : BufTy).Contents (Elt F) → (⟨S_, .f32⟩ : BufTy).Contents (Elt F)),
    StableHlo.binary main_v16 main_v0 main_v27 (subf : (⟨S65536x32, .f32⟩ : BufTy).Contents (Elt F) → (⟨S65536x32, .f32⟩ : BufTy).Contents (Elt F) → (⟨S65536x32, .f32⟩ : BufTy).Contents (Elt F)),
    StableHlo.binary main_v0 main_v27 main_v28 (addf : (⟨S65536x32, .f32⟩ : BufTy).Contents (Elt F) → (⟨S65536x32, .f32⟩ : BufTy).Contents (Elt F) → (⟨S65536x32, .f32⟩ : BufTy).Contents (Elt F)),
    StableHlo.reshape main_v28 main_v29 (rfl : (.f32 : EltTy) = .f32) shapeCasts_S65536x32_S64x1024x32,
    StableHlo.reshape main_v15 main_v30 (rfl : (.i32 : EltTy) = .i32) shapeCasts_S65536_S64x1024]

variable (V : Valuation τ sig (Elt F))

theorem dist_v14 : after refDist V (Proc.devRef .tc main_v14) = rDist (V (Proc.devRef .tc main_arg0)) (V (Proc.devRef .tc main_arg1)) := by
  after_results_simp; rfl
theorem dist_v0 : after refDist V (Proc.devRef .tc main_v0) = rFlat (V (Proc.devRef .tc main_arg0)) := by
  after_results_simp; rfl
theorem dist_arg0 : after refDist V (Proc.devRef .tc main_arg0) = V (Proc.devRef .tc main_arg0) := by
  after_results_simp
theorem dist_arg1 : after refDist V (Proc.devRef .tc main_arg1) = V (Proc.devRef .tc main_arg1) := by
  after_results_simp

theorem arg_v15 : after refArg V (Proc.devRef .tc main_v15) = rArg (V (Proc.devRef .tc main_v14)) := by
  after_results_simp; rfl
theorem arg_v0 : after refArg V (Proc.devRef .tc main_v0) = V (Proc.devRef .tc main_v0) := by
  after_results_simp
theorem arg_arg0 : after refArg V (Proc.devRef .tc main_arg0) = V (Proc.devRef .tc main_arg0) := by
  after_results_simp
theorem arg_arg1 : after refArg V (Proc.devRef .tc main_arg1) = V (Proc.devRef .tc main_arg1) := by
  after_results_simp

theorem at_v5 : after refAt V (Proc.devRef .tc main_call1_v5) = rAt (V (Proc.devRef .tc main_v15)) := by
  after_results_simp; rfl
theorem at_v15 : after refAt V (Proc.devRef .tc main_v15) = V (Proc.devRef .tc main_v15) := by
  after_results_simp
theorem at_v0 : after refAt V (Proc.devRef .tc main_v0) = V (Proc.devRef .tc main_v0) := by
  after_results_simp
theorem at_arg0 : after refAt V (Proc.devRef .tc main_arg0) = V (Proc.devRef .tc main_arg0) := by
  after_results_simp
theorem at_arg1 : after refAt V (Proc.devRef .tc main_arg1) = V (Proc.devRef .tc main_arg1) := by
  after_results_simp

theorem in_v11 : after refIn V (Proc.devRef .tc main_call1_v11) = rCmp (V (Proc.devRef .tc main_call1_v5)) := by
  after_results_simp; rfl
theorem in_c3 : after refIn V (Proc.devRef .tc main_call1_c_3) = constantI S_ 1 1#1 := by
  after_results_simp; rfl
theorem in_v5 : after refIn V (Proc.devRef .tc main_call1_v5) = V (Proc.devRef .tc main_call1_v5) := by
  after_results_simp
theorem in_v15 : after refIn V (Proc.devRef .tc main_v15) = V (Proc.devRef .tc main_v15) := by
  after_results_simp
theorem in_v0 : after refIn V (Proc.devRef .tc main_v0) = V (Proc.devRef .tc main_v0) := by
  after_results_simp
theorem in_arg0 : after refIn V (Proc.devRef .tc main_arg0) = V (Proc.devRef .tc main_arg0) := by
  after_results_simp
theorem in_arg1 : after refIn V (Proc.devRef .tc main_arg1) = V (Proc.devRef .tc main_arg1) := by
  after_results_simp

theorem and_v12 : after refAnd V (Proc.devRef .tc main_call1_v12)
    = Host.reduce IntOp.andi (V (Proc.devRef .tc main_call1_v11) : IVec S65536x1 1) (V (Proc.devRef .tc main_call1_c_3) : IVec S_ 1) reducesTo_S65536x1_S65536_d1 h_S_ := by
  after_results_simp
  have h : ∀ f : IVec S65536x1 1 → IVec S_ 1 → IVec S65536 1,
      main_call1.v12.toBuf (Val := Elt F) (f (main_call1.v11.ofBuf (Val := Elt F) (V (Proc.devRef .tc main_call1_v11)))
        (main_call1.c_3.ofBuf (Val := Elt F) (V (Proc.devRef .tc main_call1_c_3))))
        = f (V (Proc.devRef .tc main_call1_v11)) (V (Proc.devRef .tc main_call1_c_3)) := by
    intro f; rfl
  exact h fun x v => Host.reduce IntOp.andi x v reducesTo_S65536x1_S65536_d1 h_S_
theorem and_v5 : after refAnd V (Proc.devRef .tc main_call1_v5) = V (Proc.devRef .tc main_call1_v5) := by
  after_results_simp
theorem and_v15 : after refAnd V (Proc.devRef .tc main_v15) = V (Proc.devRef .tc main_v15) := by
  after_results_simp
theorem and_v0 : after refAnd V (Proc.devRef .tc main_v0) = V (Proc.devRef .tc main_v0) := by
  after_results_simp
theorem and_arg0 : after refAnd V (Proc.devRef .tc main_arg0) = V (Proc.devRef .tc main_arg0) := by
  after_results_simp
theorem and_arg1 : after refAnd V (Proc.devRef .tc main_arg1) = V (Proc.devRef .tc main_arg1) := by
  after_results_simp

theorem take_v16 : after refTake V (Proc.devRef .tc main_v16)
    = rRows (V (Proc.devRef .tc main_arg1)) (V (Proc.devRef .tc main_call1_v5)) (V (Proc.devRef .tc main_call1_v12)) := by
  after_results_simp; rfl
theorem take_v15 : after refTake V (Proc.devRef .tc main_v15) = V (Proc.devRef .tc main_v15) := by
  after_results_simp
theorem take_v0 : after refTake V (Proc.devRef .tc main_v0) = V (Proc.devRef .tc main_v0) := by
  after_results_simp
theorem take_arg0 : after refTake V (Proc.devRef .tc main_arg0) = V (Proc.devRef .tc main_arg0) := by
  after_results_simp
theorem take_arg1 : after refTake V (Proc.devRef .tc main_arg1) = V (Proc.devRef .tc main_arg1) := by
  after_results_simp

theorem rest_v26 : after refRest V (Proc.devRef .tc main_v26) = rLoss (subf (V (Proc.devRef .tc main_v16)) (V (Proc.devRef .tc main_v0))) := by
  after_results_simp; rfl
theorem rest_v29 : after refRest V (Proc.devRef .tc main_v29)
    = shapeCast S64x1024x32 (addf (V (Proc.devRef .tc main_v0)) (subf (V (Proc.devRef .tc main_v16)) (V (Proc.devRef .tc main_v0)))) shapeCasts_S65536x32_S64x1024x32 := by
  after_results_simp; rfl
theorem rest_v30 : after refRest V (Proc.devRef .tc main_v30) = shapeCast S64x1024 (V (Proc.devRef .tc main_v15)) shapeCasts_S65536_S64x1024 := by
  after_results_simp; rfl
theorem rest_arg0 : after refRest V (Proc.devRef .tc main_arg0) = V (Proc.devRef .tc main_arg0) := by
  after_results_simp
theorem rest_arg1 : after refRest V (Proc.devRef .tc main_arg1) = V (Proc.devRef .tc main_arg1) := by
  after_results_simp

/-- All of the reference's operations. -/
abbrev refAll : List (HloOp τ sig (Elt F)) := refDist ++ (refArg ++ (refAt ++ (refIn ++ (refAnd ++ (refTake ++ refRest)))))

theorem all_v15 : after refAll V (Proc.devRef .tc main_v30)
    = shapeCast S64x1024 (rIdx (V (Proc.devRef .tc main_arg0)) (V (Proc.devRef .tc main_arg1))) shapeCasts_S65536_S64x1024 := by
  rw [StableHlo.after_append, StableHlo.after_append, StableHlo.after_append, StableHlo.after_append, StableHlo.after_append,
    StableHlo.after_append, rest_v30, take_v15, and_v15, in_v15, at_v15, arg_v15, dist_v14, rIdx]

theorem all_v26 : after refAll V (Proc.devRef .tc main_v26)
    = rLoss (rDif (V (Proc.devRef .tc main_arg0)) (V (Proc.devRef .tc main_arg1)) (rIdx (V (Proc.devRef .tc main_arg0)) (V (Proc.devRef .tc main_arg1)))) := by
  rw [StableHlo.after_append, StableHlo.after_append, StableHlo.after_append, StableHlo.after_append, StableHlo.after_append,
    StableHlo.after_append, rest_v26, take_v16, and_v12, and_v5, in_v11, in_c3, in_v5, at_v5, arg_v15, dist_v14,
    take_v0, and_v0, in_v0, at_v0, arg_v0, dist_v0, and_arg1, in_arg1, at_arg1, arg_arg1, dist_arg1, rDif, rTake, rIn, rIdx]

theorem all_v29 : after refAll V (Proc.devRef .tc main_v29)
    = shapeCast S64x1024x32 (addf (rFlat (V (Proc.devRef .tc main_arg0))) (rDif (V (Proc.devRef .tc main_arg0)) (V (Proc.devRef .tc main_arg1)) (rIdx (V (Proc.devRef .tc main_arg0)) (V (Proc.devRef .tc main_arg1))))) shapeCasts_S65536x32_S64x1024x32 := by
  rw [StableHlo.after_append, StableHlo.after_append, StableHlo.after_append, StableHlo.after_append, StableHlo.after_append,
    StableHlo.after_append, rest_v29, take_v16, and_v12, and_v5, in_v11, in_c3, in_v5, at_v5, arg_v15, dist_v14,
    take_v0, and_v0, in_v0, at_v0, arg_v0, dist_v0, and_arg1, in_arg1, at_arg1, arg_arg1, dist_arg1, rDif, rTake, rIn, rIdx]

theorem all_arg0 : after refAll V (Proc.devRef .tc main_arg0) = V (Proc.devRef .tc main_arg0) := by
  rw [StableHlo.after_append, StableHlo.after_append, StableHlo.after_append, StableHlo.after_append, StableHlo.after_append,
    StableHlo.after_append, rest_arg0, take_arg0, and_arg0, in_arg0, at_arg0, arg_arg0, dist_arg0]

theorem all_arg1 : after refAll V (Proc.devRef .tc main_arg1) = V (Proc.devRef .tc main_arg1) := by
  rw [StableHlo.after_append, StableHlo.after_append, StableHlo.after_append, StableHlo.after_append, StableHlo.after_append,
    StableHlo.after_append, rest_arg1, take_arg1, and_arg1, in_arg1, at_arg1, arg_arg1, dist_arg1]

/-- The reference's program is its operations in order. -/
theorem main_refAll (c : Dev nD) : main (F := F) c = StableHlo.seq refAll := by
  simp only [main, fn_argmin.body, fn_take.body, fn_where.body, refAll, refDist, refArg, refAt, refIn, refAnd, refTake, refRest,
    List.cons_append, List.nil_append, StableHlo.seq, bind_assoc, pure_bind]

/-- The reference's run: its three results, and its arguments as they were. -/
theorem run_reference (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v26) = rLoss (rDif (m ((c.tc : Thread nD τ).loc main_arg0)) (m ((c.tc : Thread nD τ).loc main_arg1))
          (rIdx (m ((c.tc : Thread nD τ).loc main_arg0)) (m ((c.tc : Thread nD τ).loc main_arg1))))
      ∧ r.2.mem ((c.tc : Thread nD τ).loc main_v29) = shapeCast S64x1024x32 (addf (rFlat (m ((c.tc : Thread nD τ).loc main_arg0)))
          (rDif (m ((c.tc : Thread nD τ).loc main_arg0)) (m ((c.tc : Thread nD τ).loc main_arg1))
            (rIdx (m ((c.tc : Thread nD τ).loc main_arg0)) (m ((c.tc : Thread nD τ).loc main_arg1))))) shapeCasts_S65536x32_S64x1024x32
      ∧ r.2.mem ((c.tc : Thread nD τ).loc main_v30) = shapeCast S64x1024
          (rIdx (m ((c.tc : Thread nD τ).loc main_arg0)) (m ((c.tc : Thread nD τ).loc main_arg1))) shapeCasts_S65536_S64x1024
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hfresh : ∀ op ∈ refAll (F := F), op.fresh = ∅ := by
    intro _ h; (repeat (cases h with | head => rfl | tail _ h => ?_)); exact nomatch h
  refine Idealize.ShloMosaic.θ_run_mono (StableHlo.run_seq (by decide) (by decide) defs main (fun _ => refAll) main_refAll
    (by simp [StableHlo.devRef_mem_tcRefs]) m g (fun _ => hfresh)) fun r hr c => ?_
  have e := hr c
  exact ⟨(e main_v26).trans (all_v26 _), (e main_v29).trans (all_v29 _), (e main_v30).trans (all_v15 _),
    (e main_arg0).trans (all_arg0 _), (e main_arg1).trans (all_arg1 _)⟩

end Cert.Proof

end
-- ==== Proof.Argmin.lean ====
/-
  The index of the least score over the extended reals, as the kernel finds it (half by half) and as the reference does
  (a fold of pairs): both are the first position of the least.
-/
module

public import proofs.«01_k».proof.Proof.Words
public import proofs.«01_k».proof.Proof.Ref
@[expose] public section

noncomputable section

namespace Cert.Proof

open Idealize.ShloMosaic

/-- `k` is the first position of the least of `s`. -/
def IsFirst (s : Fin 8192 → ℝ) (k : Fin 8192) : Prop := (∀ j, s k ≤ s j) ∧ ∀ j, j < k → s k < s j

theorem IsFirst.unique {s : Fin 8192 → ℝ} {a b : Fin 8192} (ha : IsFirst s a) (hb : IsFirst s b) : a = b := by
  rcases lt_trichotomy a b with h | h | h
  · exact absurd (hb.2 a h) (not_lt.2 (ha.1 b))
  · exact h
  · exact absurd (ha.2 b h) (not_lt.2 (hb.1 a))

/-! ## The kernel's -/

section Kernel

variable (z : Vec Ideal Cert.KernelIdeal.S2048x32 .f32) (w : Vec Ideal Cert.KernelIdeal.S32x8192 .bf16)
  (n : Vec Ideal Cert.KernelIdeal.S1x8192 .f32) (k : Vec Ideal Cert.KernelIdeal.S1x8192 .f32)

theorem ideal_inf : FloatOps.ofBits (F := Ideal) .f32 0x7F800000#32 = (⊤ : EReal) := by
  change Ideal.ofBits .f32 0x7F800000#32 = ⊤
  simp [Ideal.ofBits, Ideal.ieee]

/-- The least score over a half is one of its scores, and no greater than any. -/
theorem least_real (p : Fin 4096 → Fin 8192) (r : Fin 2048) (s : Fin 8192 → ℝ) (hs : ∀ j, score z w n r j = (s j : EReal)) :
    ∃ i, least z w n p r = (s (p i) : EReal) ∧ ∀ j, s (p i) ≤ s (p j) := by
  obtain ⟨i, -, hm⟩ := (Finset.univ : Finset (Fin 4096)).exists_min_image (fun j => s (p j)) ⟨0, Finset.mem_univ _⟩
  refine ⟨i, ?_, fun j => hm j (Finset.mem_univ _)⟩
  unfold least
  rw [ideal_inf]
  change (Finset.univ : Finset (Fin 4096)).fold min (⊤ : EReal) _ = _
  refine le_antisymm ?_ ?_
  · exact (Finset.fold_min_le _).2 (Or.inr ⟨i, Finset.mem_univ _, le_of_eq (hs (p i))⟩)
  · refine (Finset.le_fold_min _).2 ⟨le_top, fun j _ => ?_⟩
    rw [hs]
    exact EReal.coe_le_coe_iff.2 (hm j (Finset.mem_univ _))

theorem oeq_iff (a b : ℝ) : FloatOps.cmpf (F := Ideal) (φ := .f32) .oeq (a : EReal) (b : EReal) = 1#1 ↔ a = b := by
  rw [Ideal.cmpf_def]
  by_cases h : a = b <;> simp [Ideal.cmp, h]

theorem olt_iff (a b : ℝ) : FloatOps.cmpf (F := Ideal) (φ := .f32) .olt (a : EReal) (b : EReal) = 1#1 ↔ a < b := by
  rw [Ideal.cmpf_def]
  by_cases h : a < b <;> simp [Ideal.cmp, h]

/-- The least of a half's positions-or-8192 is the first position of the half's least score. -/
theorem posOr_first (p : Fin 4096 → Fin 8192) (hp : StrictMono p) (r : Fin 2048) (s : Fin 8192 → ℝ)
    (hs : ∀ j, score z w n r j = (s j : EReal)) (i : Fin 4096) (hi : ∀ j, posOr z w n p r i ≤ posOr z w n p r j) :
    posOr z w n p r i = (p i).val ∧ least z w n p r = (s (p i) : EReal) ∧ (∀ j, s (p i) ≤ s (p j)) ∧ ∀ j, j < i → s (p i) < s (p j) := by
  obtain ⟨a, ha, hm⟩ := least_real z w n p r s hs
  have hpos : ∀ j, posOr z w n p r j = if s (p j) = s (p a) then (p j).val else 8192 := by
    intro j
    unfold posOr
    rw [ha, hs]
    exact if_congr (oeq_iff _ _) rfl rfl
  have hia : s (p i) = s (p a) := by
    by_contra hne
    have h := hi a
    rw [hpos, hpos, if_neg hne, if_pos rfl] at h
    have := (p a).isLt
    omega
  refine ⟨(hpos i).trans (if_pos hia), hia ▸ ha, fun j => hia ▸ hm j, fun j hj => ?_⟩
  refine lt_of_le_of_ne (hia ▸ hm j) fun he => ?_
  have h := hi j
  rw [hpos, hpos, if_pos hia, if_pos (he ▸ hia)] at h
  exact absurd (hp hj) (not_lt.2 h)

theorem loPos_mono : StrictMono loPos := fun _ _ h => h
theorem hiPos_mono : StrictMono hiPos := fun _ _ h => Nat.add_lt_add_left h 4096

/-- Every position lies in one of the halves. -/
theorem pos_cases (j : Fin 8192) : (∃ a, j = loPos a) ∨ ∃ a, j = hiPos a := by
  by_cases h : j.val < 4096
  · exact .inl ⟨⟨j.val, h⟩, rfl⟩
  · exact .inr ⟨⟨j.val - 4096, by have := j.isLt; omega⟩, Fin.ext (by change j.val = 4096 + (j.val - 4096); omega)⟩

/-- The kernel's index of a row of a block whose scores are real. -/
theorem idxBlk_first (hk : ∀ j : Fin 8192, k (ValueIdx.ix2 0 j) = Counts.num (F := Ideal) j.val) (r : Fin 2048) (s : Fin 8192 → ℝ)
    (hs : ∀ j, score z w n r j = (s j : EReal)) :
    ∃ a, idxBlk z w n k (ValueIdx.ix3 0 0 r) = BitVec.ofNat 32 a.val ∧ IsFirst s a := by
  obtain ⟨i₁, i₂, h, m₁, m₂⟩ := idxBlk_at z w n k hk r
  obtain ⟨e₁, l₁, a₁, b₁⟩ := posOr_first z w n loPos loPos_mono r s hs i₁ m₁
  obtain ⟨e₂, l₂, a₂, b₂⟩ := posOr_first z w n hiPos hiPos_mono r s hs i₂ m₂
  have hu : upper z w n r = 1#1 ↔ s (hiPos i₂) < s (loPos i₁) := by
    unfold upper
    rw [l₁, l₂]
    exact olt_iff _ _
  rw [e₁, e₂] at h
  by_cases hc : s (hiPos i₂) < s (loPos i₁)
  · refine ⟨hiPos i₂, h.trans (by rw [if_pos (hu.2 hc)]), fun j => ?_, fun j hj => ?_⟩
    · rcases pos_cases j with ⟨a, rfl⟩ | ⟨a, rfl⟩
      · exact le_trans (le_of_lt hc) (a₁ a)
      · exact a₂ a
    · rcases pos_cases j with ⟨a, rfl⟩ | ⟨a, rfl⟩
      · exact lt_of_lt_of_le hc (a₁ a)
      · exact b₂ a (hiPos_mono.lt_iff_lt.1 hj)
  · refine ⟨loPos i₁, h.trans (by rw [if_neg fun e => hc (hu.1 e)]), fun j => ?_, fun j hj => ?_⟩
    · rcases pos_cases j with ⟨a, rfl⟩ | ⟨a, rfl⟩
      · exact a₁ a
      · exact le_trans (not_lt.1 hc) (a₂ a)
    · rcases pos_cases j with ⟨a, rfl⟩ | ⟨a, rfl⟩
      · exact b₁ a (loPos_mono.lt_iff_lt.1 hj)
      · exfalso
        have h1 : 4096 + a.val < i₁.val := hj
        have := i₁.isLt
        omega

end Kernel

/-! ## The reference's -/

section Reference

open Cert.ReferenceIdeal Cert.ReferenceIdeal.Gen

/-- The order of pairs the reference's fold takes the least in. -/
def PairLe (p q : EReal × BitVec 32) : Prop := p.1 < q.1 ∨ (p.1 = q.1 ∧ p.2.toInt ≤ q.2.toInt)

theorem PairLe.refl (p : EReal × BitVec 32) : PairLe p p := .inr ⟨rfl, le_refl _⟩

theorem PairLe.trans {p q r : EReal × BitVec 32} (h : PairLe p q) (h' : PairLe q r) : PairLe p r := by
  rcases h with h | ⟨h, g⟩ <;> rcases h' with h' | ⟨h', g'⟩
  · exact .inl (lt_trans h h')
  · exact .inl (h' ▸ h)
  · exact .inl (h ▸ h')
  · exact .inr ⟨h.trans h', le_trans g g'⟩

/-- One step of the fold returns one of its two pairs, the lesser. -/
theorem reducer_spec (p q : EReal × BitVec 32) :
    (reducer_argmin_f32_i32 (F := Ideal) p q = p ∨ reducer_argmin_f32_i32 (F := Ideal) p q = q)
      ∧ PairLe (reducer_argmin_f32_i32 (F := Ideal) p q) p ∧ PairLe (reducer_argmin_f32_i32 (F := Ideal) p q) q := by
  obtain ⟨a, i⟩ := p
  obtain ⟨b, j⟩ := q
  have e : reducer_argmin_f32_i32 (F := Ideal) (a, i) (b, j)
      = (if a < b then a else b, if a < b ∨ (a = b ∧ i.toInt < j.toInt) then i else j) := by
    unfold reducer_argmin_f32_i32
    simp only [Ideal.cmpf_def, Ideal.cmp, IntOp.ori, IntOp.andi, IntOp.cmpi, Scalar.select]
    by_cases h1 : a < b <;> by_cases h2 : a = b <;> by_cases h3 : i.toInt < j.toInt <;>
      simp [h1, h2, h3, BitVec.slt]
  rw [e]
  by_cases h1 : a < b
  · rw [if_pos h1, if_pos (.inl h1)]
    exact ⟨.inl rfl, .refl _, .inl h1⟩
  · by_cases h2 : a = b ∧ i.toInt < j.toInt
    · rw [if_neg h1, if_pos (.inr h2)]
      obtain ⟨rfl, h3⟩ := h2
      exact ⟨.inl rfl, .refl _, .inr ⟨rfl, le_of_lt h3⟩⟩
    · rw [if_neg h1, if_neg (by tauto)]
      refine ⟨.inr rfl, ?_, .refl _⟩
      rcases lt_or_eq_of_le (not_lt.1 h1) with h | h
      · exact .inl h
      · exact .inr ⟨h, not_lt.1 fun h3 => h2 ⟨h.symm, h3⟩⟩

/-- The fold returns the least of its pairs. -/
theorem foldl_spec : ∀ (l : List (EReal × BitVec 32)) (p : EReal × BitVec 32),
    (l.foldl (reducer_argmin_f32_i32 (F := Ideal)) p ∈ p :: l) ∧ ∀ q ∈ p :: l, PairLe (l.foldl (reducer_argmin_f32_i32 (F := Ideal)) p) q
  | [], p => ⟨List.mem_singleton.2 rfl, fun q hq => by rw [List.mem_singleton.1 hq]; exact .refl _⟩
  | a :: l, p => by
    obtain ⟨h1, h2⟩ := foldl_spec l (reducer_argmin_f32_i32 (F := Ideal) p a)
    obtain ⟨g1, g2, g3⟩ := reducer_spec p a
    rw [List.foldl_cons]
    have hhead := h2 _ (List.mem_cons_self ..)
    refine ⟨?_, fun q hq => ?_⟩
    · rcases List.mem_cons.1 h1 with h | h
      · rcases g1 with g | g
        · exact List.mem_cons.2 (.inl (h.trans g))
        · exact List.mem_cons.2 (.inr (List.mem_cons.2 (.inl (h.trans g))))
      · exact List.mem_cons.2 (.inr (List.mem_cons.2 (.inr h)))
    · rcases List.mem_cons.1 hq with h | h
      · exact h ▸ hhead.trans g2
      · rcases List.mem_cons.1 h with h | h
        · exact h ▸ hhead.trans g3
        · exact h2 q (List.mem_cons_of_mem _ h)

theorem dropRow (r : Fin 65536) (k : Fin 8192) :
    reducesTo_S65536x8192_S65536_d1.drop (ValueIdx.ix2 r k) = ValueIdx.ix1 r := by
  funext a
  match a with
  | ⟨0, _⟩ => exact Fin.ext rfl

theorem word_toInt (k : Fin 8192) : (BitVec.ofNat 32 k.val).toInt = k.val := by
  have := k.isLt
  rw [BitVec.toInt_eq_toNat_of_lt (by rw [BitVec.toNat_ofNat]; omega), BitVec.toNat_ofNat, Nat.mod_eq_of_lt (by omega)]

theorem drop_val (i : S65536x8192.Idx) : (reducesTo_S65536x8192_S65536_d1.drop i 0).val = (i 0).val := rfl

/-- The pairs a two-operand reduction folds over at `j` are those of the indices that drop to `j`. -/
theorem mem_fiber {α β : Type} {s t : Shape} {axes : List (Fin s.rank)} (x : s.Idx → α) (y : s.Idx → β) (h : s.ReducesTo axes t)
    (j : t.Idx) (q : α × β) : q ∈ Host.argReduceFiber x y h j ↔ ∃ i, h.drop i = j ∧ q = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    refine ⟨s.rowMajor i, ?_, ?_⟩
    · rw [Equiv.symm_apply_apply]; exact hi
    · rw [Equiv.symm_apply_apply]

/-- A fold over pairs that are real scores with their positions is the first position of the least score. -/
theorem foldl_first (l : List (EReal × BitVec 32)) (s : Fin 8192 → ℝ)
    (hl : ∀ q, q ∈ l ↔ ∃ j : Fin 8192, q = ((s j : EReal), BitVec.ofNat 32 j.val)) :
    ∃ a, (l.foldl (reducer_argmin_f32_i32 (F := Ideal)) ((⊤ : EReal), 0#32)).2 = BitVec.ofNat 32 a.val ∧ IsFirst s a := by
  obtain ⟨h1, h2⟩ := foldl_spec l ((⊤ : EReal), 0#32)
  obtain ⟨p, hp⟩ : ∃ p, p = l.foldl (reducer_argmin_f32_i32 (F := Ideal)) ((⊤ : EReal), 0#32) := ⟨_, rfl⟩
  rw [← hp] at h1 h2 ⊢
  have hle : ∀ j : Fin 8192, PairLe p ((s j : EReal), BitVec.ofNat 32 j.val) := fun j => h2 _ (List.mem_cons_of_mem _ ((hl _).2 ⟨j, rfl⟩))
  have hmem : ∃ a : Fin 8192, p = ((s a : EReal), BitVec.ofNat 32 a.val) := by
    rcases List.mem_cons.1 h1 with h | h
    · exfalso
      have h0 := hle 0
      rw [h] at h0
      rcases h0 with h0 | ⟨h0, -⟩
      · exact absurd h0 (not_lt.2 le_top)
      · exact EReal.coe_ne_top _ h0.symm
    · exact (hl _).1 h
  obtain ⟨a, rfl⟩ := hmem
  refine ⟨a, rfl, fun j => ?_, fun j hj => ?_⟩
  · rcases hle j with h | ⟨h, -⟩
    · exact le_of_lt (EReal.coe_lt_coe_iff.1 h)
    · exact le_of_eq (EReal.coe_eq_coe_iff.1 h)
  · rcases hle j with h | ⟨-, h⟩
    · exact EReal.coe_lt_coe_iff.1 h
    · exfalso
      change (BitVec.ofNat 32 a.val).toInt ≤ (BitVec.ofNat 32 j.val).toInt at h
      rw [word_toInt, word_toInt] at h
      have : j.val < a.val := hj
      omega

/-- The reference's indices, as a function of the row. -/
theorem rArg_eq (D : FVec Ideal S65536x8192 .f32) : rArg D
    = fun j => (Host.argReduce (reducer_argmin_f32_i32 (F := Ideal)) D (iotaInDim S65536x8192 32 1)
    (constant (F := Ideal) S_ .f32 0x7F800000#32) (constantI S_ 32 0#32) reducesTo_S65536x8192_S65536_d1 h_S_ j).2 := rfl

theorem iota_at (i : S65536x8192.Idx) : iotaInDim S65536x8192 32 1 i = BitVec.ofNat 32 (i 1).val := rfl

/-- The pairs of a row: its scores with their positions. -/
theorem fiber_row (D : FVec Ideal S65536x8192 .f32) (r : Fin 65536) (s : Fin 8192 → ℝ)
    (hs : ∀ j, D (ValueIdx.ix2 r j) = (s j : EReal)) (q : EReal × BitVec 32) :
    q ∈ Host.argReduceFiber D (iotaInDim S65536x8192 32 1) reducesTo_S65536x8192_S65536_d1 (ValueIdx.ix1 r)
      ↔ ∃ j : Fin 8192, q = ((s j : EReal), BitVec.ofNat 32 j.val) := by
  refine (mem_fiber D (iotaInDim S65536x8192 32 1) reducesTo_S65536x8192_S65536_d1 (ValueIdx.ix1 r) q).trans ?_
  constructor
  · rintro ⟨i, hi, rfl⟩
    have hii : i = ValueIdx.ix2 r (i 1) := by
      funext a
      match a with
      | ⟨0, _⟩ => exact Fin.ext ((drop_val i).symm.trans (congrArg Fin.val (congrFun hi 0)))
      | ⟨1, _⟩ => rfl
    refine ⟨i 1, Prod.ext ?_ (iota_at i)⟩
    exact (congrArg D hii).trans (hs (i 1))
  · rintro ⟨j, rfl⟩
    exact ⟨ValueIdx.ix2 r j, dropRow r j, Prod.ext (hs j).symm (iota_at (ValueIdx.ix2 r j)).symm⟩

/-- The two-operand reduction is the fold over the pairs of the row. -/
theorem fold_eq (D : FVec Ideal S65536x8192 .f32) (j : S65536.Idx) :
    Host.argReduce (reducer_argmin_f32_i32 (F := Ideal)) D (iotaInDim S65536x8192 32 1)
    (constant (F := Ideal) S_ .f32 0x7F800000#32) (constantI S_ 32 0#32) reducesTo_S65536x8192_S65536_d1 h_S_ j
    = (Host.argReduceFiber D (iotaInDim S65536x8192 32 1) reducesTo_S65536x8192_S65536_d1 j).foldl (reducer_argmin_f32_i32 (F := Ideal)) ((⊤ : EReal), 0#32) := by
  have hc : constantI S_ 32 0#32 (Shape.Idx.first h_S_) = 0#32 := rfl
  have ht : constant (F := Ideal) S_ .f32 0x7F800000#32 (Shape.Idx.first h_S_) = (⊤ : EReal) := ideal_inf
  rw [Ideal.argReduce_eq_reduce2, Host.reduce2_eq_foldl_fiber, ht, hc]

/-- The reference's index of a row whose distances are real. -/
theorem rArg_first (D : FVec Ideal S65536x8192 .f32) (r : Fin 65536) (s : Fin 8192 → ℝ)
    (hs : ∀ j, D (ValueIdx.ix2 r j) = (s j : EReal)) :
    ∃ a, rArg D (ValueIdx.ix1 r) = BitVec.ofNat 32 a.val ∧ IsFirst s a := by
  obtain ⟨a, ha, hf⟩ := foldl_first _ s (fiber_row D r s hs)
  exact ⟨a, (congrFun (rArg_eq D) (ValueIdx.ix1 r)).trans ((congrArg Prod.snd (fold_eq D (ValueIdx.ix1 r))).trans ha), hf⟩

end Reference

end Cert.Proof

end
-- ==== Proof.Scores.lean ====
/-
  The score of an input row against a table row over the reals, as the kernel computes it and as the reference does: one
  number, the squared distance between the two rows.
-/
module

public import proofs.«01_k».proof.Proof.Argmin
public import Idealize.ShloMosaic.Lib.MatmulPlain
public import Idealize.ShloMosaic.Lib.StackMember
public import Idealize.ShloMosaic.Lib.Routing.Ops
public import Idealize.ShloMosaic.Lib.ValueIdx
@[expose] public section

noncomputable section

namespace Cert.Proof

open Idealize.ShloMosaic

/-- The squared norms of the two rows less twice their product. -/
def scoreOf (a : Fin 32 → ℝ) (b : Fin 32 → ℝ) : ℝ := (∑ k, a k * a k + ∑ k, b k * b k) - 2 * ∑ k, a k * b k

/-- A finite sum of reals, read in the extended reals. -/
theorem coe_sum {ι : Type} [Fintype ι] (f : ι → ℝ) : (∑ i, (f i : EReal)) = ((∑ i, f i : ℝ) : EReal) := by
  classical
  refine Finset.induction_on (Finset.univ : Finset ι) (by simp) fun a s ha ih => ?_
  rw [Finset.sum_insert ha, Finset.sum_insert ha, ih, EReal.coe_add]

theorem ideal_two : Ideal.ofBits .f32 0x40000000#32 = ((2 : ℝ) : EReal) := by
  simp [Ideal.ofBits, Ideal.ieee]
  try rw [← EReal.coe_mul]
  try norm_num

theorem ideal_neg_two : Ideal.ofBits .bf16 0xC000#16 = ((-2 : ℝ) : EReal) := by
  simp [Ideal.ofBits, Ideal.ieee]
  try rw [← EReal.coe_mul]
  try norm_num

section Kernel

open Cert.KernelIdeal Cert.KernelIdeal.Gen

variable (z : Vec Ideal S2048x32 .f32) (w : Vec Ideal S32x8192 .bf16) (n : Vec Ideal S1x8192 .f32)

theorem colSpread8 (x : FVec Ideal S2048x1 .f32) (r : Fin 2048) (j : Fin 8192) :
    broadcastTo S2048x8192 x broadcasts_S2048x1_S2048x8192 (ValueIdx.ix2 r j) = x (ValueIdx.ix2 r 0) :=
  broadcastTo_apply x _ _ _ fun a => by match a with | ⟨0, _⟩ => rfl | ⟨1, _⟩ => rfl

theorem rowSpread8 (x : FVec Ideal S1x8192 .f32) (r : Fin 2048) (j : Fin 8192) :
    broadcastTo S2048x8192 x broadcasts_S1x8192_S2048x8192 (ValueIdx.ix2 r j) = x (ValueIdx.ix2 0 j) :=
  broadcastTo_apply x _ _ _ fun a => by match a with | ⟨0, _⟩ => rfl | ⟨1, _⟩ => rfl

theorem lift_lane (r : Fin 2048) (k : Fin 32) : reduces_S2048x32_S2048.lift (ValueIdx.ix1 r) k = ValueIdx.ix2 r k := by
  funext a
  match a with
  | ⟨0, _⟩ => exact Fin.ext rfl
  | ⟨1, _⟩ => exact Fin.ext rfl

/-- The kernel's score, as sums of products of extended reals. -/
theorem score_sums (r : Fin 2048) (j : Fin 8192) : score z w n r j
    = ((∑ k : Fin 32, z (ValueIdx.ix2 r k) * z (ValueIdx.ix2 r k) + n (ValueIdx.ix2 0 j))
      + ∑ k : Fin 32, (z (ValueIdx.ix2 r k) * Ideal.ofBits .bf16 0xC000#16) * w (ValueIdx.ix2 k j) : EReal) := by
  unfold score k0_pay2
  refine congrArg₂ (fun a b : EReal => a + b) (congrArg₂ (fun a b : EReal => a + b) ?_ ?_) ?_
  · refine (colSpread8 _ r j).trans ((colCast _ r).trans ?_)
    refine (Ideal.multiReduction_add_single _ _ _ _ _ _).trans ?_
    refine Finset.sum_congr rfl fun k _ => ?_
    rw [shapeCast_self]
    exact congrArg (fun q => (z q : EReal) * z q) (lift_lane r k)
  · rw [shapeCast_self]
    exact rowSpread8 _ r j
  · rw [shapeCast_self, shapeCast_self]
    have e : dot_S2048x32_S32x8192_S2048x8192_1_0_0_1_n_n = DotDims.plain 2048 32 8192 := rfl
    rw [e]
    refine (Ideal.matmul_plain_apply none _ _ _ r j).trans ?_
    refine Eq.trans (congrArg (fun a : EReal => a + _) Ideal.ofBits_zero_f32) ?_
    rw [zero_add]
    rfl

/-- The kernel's score where the rows are real. -/
theorem score_real (r : Fin 2048) (j : Fin 8192) (a b : Fin 32 → ℝ) (hz : ∀ k, z (ValueIdx.ix2 r k) = (a k : EReal))
    (hw : ∀ k, w (ValueIdx.ix2 k j) = (b k : EReal)) (hn : n (ValueIdx.ix2 0 j) = ((∑ k, b k * b k : ℝ) : EReal)) :
    score z w n r j = (scoreOf a b : EReal) := by
  rw [score_sums, hn, ideal_neg_two]
  simp only [hz, hw, ← EReal.coe_mul, coe_sum, ← EReal.coe_add]
  refine congrArg _ ?_
  unfold scoreOf
  rw [sub_eq_add_neg, Finset.mul_sum, ← Finset.sum_neg_distrib]
  refine congrArg _ (Finset.sum_congr rfl fun k _ => ?_)
  ring

end Kernel

section Reference

open Cert.ReferenceIdeal Cert.ReferenceIdeal.Gen

variable (z : FVec Ideal S64x1024x32 .f32) (W : FVec Ideal S8192x32 .f32)

theorem rowSum (x : FVec Ideal S65536x32 .f32) (r : Fin 65536) :
    Host.reduceAdd x (constant S_ .f32 0x00000000#32) reducesTo_S65536x32_S65536_d1 h_S_ (ValueIdx.ix1 r)
      = (∑ k : Fin 32, x (ValueIdx.ix2 r k) : EReal) := by
  have h : S65536x32.Reduces [1] S65536 := by decide
  refine (Ideal.hostReduceAdd_single reducesTo_S65536x32_S65536_d1 h x _ _).trans ?_
  refine Eq.trans (congrArg (fun a : EReal => a + _) Ideal.ofBits_zero_f32) ?_
  rw [zero_add]
  refine Finset.sum_congr rfl fun k _ => congrArg x ?_
  funext a
  match a with
  | ⟨0, _⟩ => exact Fin.ext rfl
  | ⟨1, _⟩ => exact Fin.ext rfl

theorem tabSum (x : FVec Ideal S8192x32 .f32) (r : Fin 8192) :
    Host.reduceAdd x (constant S_ .f32 0x00000000#32) reducesTo_S8192x32_S8192_d1 h_S_ (ValueIdx.ix1 r)
      = (∑ k : Fin 32, x (ValueIdx.ix2 r k) : EReal) := by
  have h : S8192x32.Reduces [1] S8192 := by decide
  refine (Ideal.hostReduceAdd_single reducesTo_S8192x32_S8192_d1 h x _ _).trans ?_
  refine Eq.trans (congrArg (fun a : EReal => a + _) Ideal.ofBits_zero_f32) ?_
  rw [zero_add]
  refine Finset.sum_congr rfl fun k _ => congrArg x ?_
  funext a
  match a with
  | ⟨0, _⟩ => exact Fin.ext rfl
  | ⟨1, _⟩ => exact Fin.ext rfl

theorem tab_transpose (x : FVec Ideal S8192x32 .f32) (k : Fin 32) (j : Fin 8192) :
    transpose S32x8192 [1, 0] x transposes_S8192x32_S32x8192_1_0 (ValueIdx.ix2 k j) = x (ValueIdx.ix2 j k) :=
  transpose_apply _ _ _ _ _ fun a => by match a with | ⟨0, _⟩ => rfl | ⟨1, _⟩ => rfl

/-- The reference's distance, as sums of products of extended reals. -/
theorem rDist_sums (r : Fin 65536) (j : Fin 8192) : rDist z W (ValueIdx.ix2 r j)
    = ((∑ k : Fin 32, rFlat z (ValueIdx.ix2 r k) * rFlat z (ValueIdx.ix2 r k) + ∑ k : Fin 32, W (ValueIdx.ix2 j k) * W (ValueIdx.ix2 j k))
      - Ideal.ofBits .f32 0x40000000#32 * ∑ k : Fin 32, rFlat z (ValueIdx.ix2 r k) * W (ValueIdx.ix2 j k) : EReal) := by
  unfold rDist
  refine congrArg₂ (fun a b : EReal => a - b) (congrArg₂ (fun a b : EReal => a + b) ?_ ?_) (congrArg₂ (fun a b : EReal => a * b) ?_ ?_)
  · exact (Routing.bcRows _ _ _ r j).trans (rowSum _ r)
  · exact (Routing.bcCols _ _ _ r j).trans (tabSum _ j)
  · exact broadcastInDim_apply _ _ _ _ (fun a => a.elim0) fun a => a.elim0
  · have e : dot_S65536x32_S32x8192_S65536x8192_1_0_0_1_n_n = DotDims.plain 65536 32 8192 := rfl
    rw [e]
    refine (StackMember.dotGeneral_plain_apply none _ _ r j).trans ?_
    exact Finset.sum_congr rfl fun k _ => congrArg (fun a : EReal => rFlat z (ValueIdx.ix2 r k) * a) (tab_transpose W k j)

/-- The reference's distance where the rows are real. -/
theorem rDist_real (r : Fin 65536) (j : Fin 8192) (a b : Fin 32 → ℝ) (hz : ∀ k, rFlat z (ValueIdx.ix2 r k) = (a k : EReal))
    (hw : ∀ k, W (ValueIdx.ix2 j k) = (b k : EReal)) : rDist z W (ValueIdx.ix2 r j) = (scoreOf a b : EReal) := by
  rw [rDist_sums, ideal_two]
  simp only [hz, hw, ← EReal.coe_mul, coe_sum, ← EReal.coe_add, ← EReal.coe_sub]
  rfl

end Reference

end Cert.Proof

end
-- ==== Proof.Same.lean ====
/-
  Where the input and the table are real, the kernel's indices are the reference's.
-/
module

public import proofs.«01_k».proof.Proof.Scores
public import proofs.«01_k».proof.Proof.Values
@[expose] public section

noncomputable section

namespace Cert.Proof

open Cert.KernelIdeal Cert.KernelIdeal.Gen
open Idealize.ShloMosaic

variable (m : (ℓ : Loc nD τ sig) → Buf (Elt Ideal) ℓ) (d : Dev nD)

theorem flat_eq : flat m d = rFlat (F := Ideal) (zIn m d) := rfl

theorem wT_at (k : Fin 32) (j : Fin 8192) : wT m d (ValueIdx.ix2 k j) = tIn m d (ValueIdx.ix2 j k) := by
  unfold wT
  exact tab_transpose (tIn m d) k j

theorem nRow_at (j : Fin 8192) :
    nRow m d (ValueIdx.ix2 0 j) = (∑ k : Fin 32, tIn m d (ValueIdx.ix2 j k) * tIn m d (ValueIdx.ix2 j k) : EReal) := by
  unfold nRow
  refine (shapeCast_apply _ _ _ (ValueIdx.ix1 j) ?_).trans (tabSum (mulf (tIn m d) (tIn m d)) j)
  rw [Shape.rowMajor_val_one, Shape.rowMajor_val_two]
  change j.val = 0 * 8192 + j.val
  omega

/-- Row `i`'s index lies in block `i / 2048`. -/
theorem idxs_at (i : Fin 65536) : idxs m d (ValueIdx.ix1 i)
    = idx8 m d (ValueIdx.ix3 ⟨i.val / 2048, by omega⟩ 0 ⟨i.val % 2048, Nat.mod_lt _ (by decide)⟩) := by
  unfold idxs
  refine shapeCast_apply _ _ _ _ ?_
  rw [Shape.rowMajor_val_one, Shape.rowMajor_val_three]
  change (i.val / 2048 * 1 + 0) * 2048 + i.val % 2048 = i.val
  omega

variable (a : Fin 65536 → Fin 32 → ℝ) (b : Fin 8192 → Fin 32 → ℝ)

/-- Each row's index is that of its first least score, in the kernel and in the reference. -/
theorem idxs_first (ha : ∀ i k, flat m d (ValueIdx.ix2 i k) = (a i k : EReal))
    (hb : ∀ j k, tIn m d (ValueIdx.ix2 j k) = (b j k : EReal)) (i : Fin 65536) :
    ∃ q : Fin 8192, idxs m d (ValueIdx.ix1 i) = BitVec.ofNat 32 q.val
      ∧ rIdx (F := Ideal) (zIn m d) (tIn m d) (ValueIdx.ix1 i) = BitVec.ofNat 32 q.val := by
  obtain ⟨q, hq, hf⟩ := idxBlk_first (inRows (flat m d) (i.val / 2048)) (wT m d) (nRow m d) kRow kRow_at
    ⟨i.val % 2048, Nat.mod_lt _ (by decide)⟩ (fun j => scoreOf (a i) (b j)) fun j => by
      refine score_real _ _ _ _ _ _ _ (fun k => ?_) (fun k => ?_) ?_
      · refine Eq.trans (congrArg (flat m d) ?_) (ha i k)
        refine congrArg (fun x => ValueIdx.ix2 x k) (Fin.ext ?_)
        change (2048 * (i.val / 2048) + i.val % 2048) % 65536 = i.val
        omega
      · exact (wT_at m d k j).trans (hb j k)
      · rw [nRow_at]
        simp only [hb, ← EReal.coe_mul, coe_sum]
  obtain ⟨q', hq', hf'⟩ := rArg_first (rDist (F := Ideal) (zIn m d) (tIn m d)) i (fun j => scoreOf (a i) (b j)) fun j =>
    rDist_real _ _ i j (a i) (b j) (fun k => ha i k) fun k => hb j k
  have e := hf.unique hf'
  subst e
  exact ⟨q, (idxs_at m d i).trans hq, hq'⟩

/-- The indices agree. -/
theorem idxs_eq (ha : ∀ i k, flat m d (ValueIdx.ix2 i k) = (a i k : EReal))
    (hb : ∀ j k, tIn m d (ValueIdx.ix2 j k) = (b j k : EReal)) : idxs m d = rIdx (F := Ideal) (zIn m d) (tIn m d) := by
  funext p
  obtain ⟨q, h, h'⟩ := idxs_first m d a b ha hb (p 0)
  rw [ValueIdx.eq_ix1 p]
  exact h.trans h'.symm

end Cert.Proof

end
-- ==== Proof.Take.lean ====
/-
  The table's rows at the indices: what the reference takes and what the kernel gathers from the padded table.
-/
module

public import proofs.«01_k».proof.Proof.Same
public import Idealize.ShloMosaic.Lib.ReduceAll
public import Idealize.ShloMosaic.Lib.Routing.OpsPair
public import Idealize.ShloMosaic.Lib.WordCmp
@[expose] public section

noncomputable section

namespace Cert.Proof

open Idealize.ShloMosaic

/-- A selection where the choice is true. -/
theorem select_one {s : Shape} {α : Type} (c : IVec s 1) (x y : s.Idx → α) (p : s.Idx) (h : c p = 1#1) : select c x y p = x p := by
  unfold select
  rw [h]
  rfl

section Reference

open Cert.ReferenceIdeal Cert.ReferenceIdeal.Gen

variable (W : FVec Ideal S8192x32 .f32) (I : IVec S65536 32) (q : Fin 65536 → Fin 8192)

theorem idx_unit (p : (⟨2, ![65536, 1]⟩ : Shape).Idx) : p = ValueIdx.ix2 (p 0) (0 : Fin 1) := by
  funext a
  match a with
  | ⟨0, _⟩ => rfl
  | ⟨1, _⟩ => exact Subsingleton.elim (α := Fin 1) _ _

/-- An index that names a row is read as it is. -/
theorem rAt_at (hI : ∀ i, I (ValueIdx.ix1 i) = BitVec.ofNat 32 (q i).val) (i : Fin 65536) :
    rAt I (ValueIdx.ix2 i 0) = BitVec.ofNat 32 (q i).val := by
  have hq : (q i).val < 8192 := (q i).isLt
  unfold rAt
  refine (Routing.bcCol _ _ i).trans ?_
  refine Eq.trans ?_ (hI i)
  refine Routing.wrap_of_lt (I (ValueIdx.ix1 i)) _ ?_
  rw [hI i, BitVec.toNat_ofNat, Nat.mod_eq_of_lt (by omega)]
  norm_num
  omega

/-- Every index names a row. -/
theorem rCmp_one (hI : ∀ i, I (ValueIdx.ix1 i) = BitVec.ofNat 32 (q i).val) (p : S65536x1.Idx) : rCmp (rAt I) p = 1#1 := by
  rw [idx_unit p]
  have hq : (q (p 0)).val < 8192 := (q (p 0)).isLt
  have h := rAt_at I q hI (p 0)
  have e₁ : IntOp.cmpi .sge (BitVec.ofNat 32 (q (p 0)).val) (BitVec.ofNat 32 0) = 1#1 :=
    (WordCmp.cmpi_sge_ofNat_eq_one_iff (by norm_num; omega) (by norm_num)).2 (Nat.zero_le _)
  have e₂ : IntOp.cmpi .sle (BitVec.ofNat 32 (q (p 0)).val) (BitVec.ofNat 32 8191) = 1#1 :=
    (WordCmp.cmpi_sle_ofNat_eq_one_iff (by norm_num; omega) (by norm_num)).2 (by omega)
  change IntOp.andi (IntOp.cmpi .sge (rAt I (ValueIdx.ix2 (p 0) 0)) (BitVec.ofNat 32 0))
    (IntOp.cmpi .sle (rAt I (ValueIdx.ix2 (p 0) 0)) (BitVec.ofNat 32 8191)) = 1#1
  rw [h, e₁, e₂]
  rfl

/-- The reference takes the rows that the indices name. -/
theorem rTake_at (hI : ∀ i, I (ValueIdx.ix1 i) = BitVec.ofNat 32 (q i).val) (i : Fin 65536) (k : Fin 32) :
    rTake W I (ValueIdx.ix2 i k) = W (ValueIdx.ix2 (q i) k) := by
  unfold rTake rRows
  have hin : ∀ p, rIn I p = 1#1 := fun p => by
    unfold rIn
    exact Host.reduce_andi_one _ _ _ _ _ rfl (rCmp_one I q hI)
  have hb : broadcastInDim S65536x32 ![0] bcast_S65536_S65536x32_0 (rIn I) (ValueIdx.ix2 i k) = 1#1 :=
    hin _
  refine (select_one _ _ _ _ hb).trans ?_
  exact Routing.gather_row gather_S8192x32_S65536x1_S65536x32_1_0_n_n_0_1_132 rfl rfl rfl rfl rfl W (rAt I) i k (q i) (rAt_at I q hI i) (by norm_num)

end Reference

section Kernel

open Cert.KernelIdeal Cert.KernelIdeal.Gen

variable (m : (ℓ : Loc nD τ sig) → Buf (Elt Ideal) ℓ) (d : Dev nD) (q : Fin 65536 → Fin 8192)

/-- The padded table's first lanes are the table's. -/
theorem padded_at (j : Fin 8192) (k : Fin 32) (a : Fin 8200) (b : Fin 128) (ha : a.val = j.val) (hb : b.val = k.val) :
    padded m d (ValueIdx.ix2 a b) = tIn m d (ValueIdx.ix2 j k) := by
  unfold padded pad
  have h0 : j.val < 8192 := j.isLt
  have h1 : k.val < 32 := k.isLt
  rw [dif_pos]
  · refine congrArg (tIn m d) (funext fun x => ?_)
    match x with
    | ⟨0, _⟩ => exact Fin.ext (by change (a.val - 0) / 1 = j.val; omega)
    | ⟨1, _⟩ => exact Fin.ext (by change (b.val - 0) / 1 = k.val; omega)
  · intro x
    match x with
    | ⟨0, _⟩ => change 0 ≤ a.val ∧ (a.val - 0) % 1 = 0 ∧ (a.val - 0) / 1 < 8192; omega
    | ⟨1, _⟩ => change 0 ≤ b.val ∧ (b.val - 0) % 1 = 0 ∧ (b.val - 0) / 1 < 32; omega

theorem wordAt_at (i : Fin 65536) : wordAt ((callIn m).I d) i.val = idxs m d (ValueIdx.ix1 i) := by
  unfold wordAt
  refine (congrFun (V3_v11 m d) _).trans (shapeCast_apply _ _ _ _ ?_)
  rw [Shape.rowMajor_val_one, Shape.rowMajor_val_two]
  have := i.isLt
  change i.val = i.val / 128 % 512 * 128 + i.val % 128
  omega

variable (W : FVec Ideal Cert.ReferenceIdeal.S8192x32 .f32)

/-- The kernel's difference is the reference's. -/
theorem difAt_eq (hI : ∀ i, idxs m d (ValueIdx.ix1 i) = BitVec.ofNat 32 (q i).val) (i : Fin 65536) (k : Fin 32) :
    difAt ((callIn m).Tb d) ((callIn m).Z d) ((callIn m).I d) i.val k.val
      = rDif (F := Ideal) (zIn m d) (tIn m d) (idxs m d) (ValueIdx.ix2 i k) := by
  have hi : i.val < 65536 := i.isLt
  have hk : k.val < 32 := k.isLt
  have hq : (q i).val < 8192 := (q i).isLt
  refine congrArg₂ (fun a b : EReal => a - b) ?_ ?_
  · refine Eq.trans ?_ (rTake_at (tIn m d) (idxs m d) q hI i k).symm
    unfold tabAt
    refine (congrFun (V3_v10 m d) _).trans (padded_at m d (q i) k _ _ ?_ ?_)
    · change (wordAt ((callIn m).I d) i.val).toNat % 8200 = _
      rw [wordAt_at, hI, BitVec.toNat_ofNat, Nat.mod_eq_of_lt (by omega)]
      omega
    · change k.val % 128 = k.val
      omega
  · unfold zAt
    refine (congrFun (V3_v0 m d) _).trans ?_
    refine congrArg (flat m d) (congrArg₂ ValueIdx.ix2 (Fin.ext ?_) (Fin.ext ?_))
    · change i.val % 65536 = i.val
      omega
    · change k.val % 32 = k.val
      omega

/-- The kernel's output rows are the reference's. -/
theorem outs_eq (hI : ∀ i, idxs m d (ValueIdx.ix1 i) = BitVec.ofNat 32 (q i).val) :
    outs (callIn m) d = addf (rFlat (F := Ideal) (zIn m d)) (rDif (F := Ideal) (zIn m d) (tIn m d) (idxs m d)) := by
  funext p
  refine congrArg₂ (fun a b : EReal => a + b) (congrFun (V3_v0 m d) p) ?_
  refine (difAt_eq m d q hI (p 0) (p 1)).trans (congrArg _ (ValueIdx.eq_ix2 p).symm)

end Kernel

end Cert.Proof

end
-- ==== Proof.Sums.lean ====
/-
  The sum of the squared differences: tile by tile, row by row and lane by lane as the kernel adds them, and over the
  whole array as the reference does.
-/
module

public import proofs.«01_k».proof.Proof.Take
@[expose] public section

noncomputable section

namespace Cert.Proof

open Cert.KernelIdeal Cert.KernelIdeal.Gen
open Idealize.ShloMosaic

/-- Sums over `n` blocks of `b` terms are the sum of all terms. -/
theorem sum_blocks (g : ℕ → EReal) (b : ℕ) : ∀ n, ∑ t ∈ Finset.range n, ∑ r ∈ Finset.range b, g (b * t + r) = ∑ i ∈ Finset.range (b * n), g i
  | 0 => by simp
  | n + 1 => by
    rw [Finset.sum_range_succ, sum_blocks g b n, Nat.mul_succ, Finset.sum_range_add]

/-- What a tile's lane `k` holds after `n` rows. -/
theorem accFrom_sum (dif : ℕ → ℕ → EReal) (a : FVec Ideal S16 .f32) (k : S16.Idx) : ∀ n, accFrom (F := Ideal) dif a n k
    = (a k + ∑ r ∈ Finset.range n, (dif r (k 0).val * dif r (k 0).val + dif r (16 + (k 0).val) * dif r (16 + (k 0).val)) : EReal)
  | 0 => by rw [Finset.range_zero, Finset.sum_empty, add_zero]; rfl
  | n + 1 => by
    rw [Finset.sum_range_succ, ← add_assoc, ← accFrom_sum dif a k n, ← add_assoc]
    rfl

/-- The lanes' two halves are all lanes. -/
theorem sum_halves (f : ℕ → EReal) : ∑ k ∈ Finset.range 16, (f k + f (16 + k)) = ∑ k ∈ Finset.range 32, f k := by
  rw [Finset.sum_add_distrib, show 32 = 16 + 16 from rfl, Finset.sum_range_add]

variable (m : (ℓ : Loc nD τ sig) → Buf (Elt Ideal) ℓ) (d : Dev nD) (q : Fin 65536 → Fin 8192)

/-- The square of the kernel's difference at row `i`, lane `k`. -/
def sqAt (i k : ℕ) : EReal :=
  difAt ((callIn m).Tb d) ((callIn m).Z d) ((callIn m).I d) i k * difAt ((callIn m).Tb d) ((callIn m).Z d) ((callIn m).I d) i k

/-- One lane of one tile's partial sums. -/
theorem parts_at (t : Fin 32) (l : Fin 16) : parts (callIn m) d (ValueIdx.ix2 t l)
    = ∑ r ∈ Finset.range 2048, (sqAt m d (2048 * t.val + r) l.val + sqAt m d (2048 * t.val + r) (16 + l.val)) := by
  refine (accFrom_sum _ _ _ 2048).trans ?_
  refine Eq.trans (congrArg (fun a : EReal => a + _) Ideal.ofBits_zero_f32) ?_
  rw [zero_add]
  rfl

/-- The sum of all tiles' partial sums. -/
theorem parts_sum : (∑ p, parts (callIn m) d p : EReal) = ∑ i ∈ Finset.range 65536, ∑ k ∈ Finset.range 32, sqAt m d i k := by
  refine (ValueIdx.sum_idx2 (n0 := 32) (n1 := 16) (parts (callIn m) d)).trans ?_
  refine Eq.trans ?_ (sum_blocks (fun i => ∑ k ∈ Finset.range 32, sqAt m d i k) 2048 32)
  rw [Finset.sum_range]
  refine Finset.sum_congr rfl fun t _ => ?_
  refine (Finset.sum_congr rfl fun l _ => parts_at m d t l).trans ?_
  rw [Finset.sum_comm]
  refine Finset.sum_congr rfl fun r _ => ?_
  rw [← sum_halves, Finset.sum_range]

/-- The sum of all squared differences, as the reference has it. -/
theorem squares_sum (hI : ∀ i, idxs m d (ValueIdx.ix1 i) = BitVec.ofNat 32 (q i).val) (D : FVec Ideal Cert.ReferenceIdeal.S65536x32 .f32)
    (hD : D = rDif (F := Ideal) (zIn m d) (tIn m d) (idxs m d)) :
    (∑ p, mulf D D p : EReal) = ∑ i ∈ Finset.range 65536, ∑ k ∈ Finset.range 32, sqAt m d i k := by
  refine (ValueIdx.sum_idx2 (n0 := 65536) (n1 := 32) (mulf D D)).trans ?_
  rw [Finset.sum_range]
  refine Finset.sum_congr rfl fun i _ => ?_
  rw [Finset.sum_range]
  refine Finset.sum_congr rfl fun k _ => ?_
  unfold sqAt
  rw [difAt_eq m d q hI i k, ← hD]
  rfl

/-- The kernel's mean of the squared differences is the reference's. -/
theorem mean_eq (hI : ∀ i, idxs m d (ValueIdx.ix1 i) = BitVec.ofNat 32 (q i).val) (D : FVec Ideal Cert.ReferenceIdeal.S65536x32 .f32)
    (hD : D = rDif (F := Ideal) (zIn m d) (tIn m d) (idxs m d)) : meanOf (parts (callIn m) d) = rMean (F := Ideal) D := by
  unfold meanOf rMean
  refine congrArg (fun x => Host.divf x _) (funext fun j => ?_)
  refine (Ideal.hostReduceAdd_total reducesTo_S32x16_S_d0_1 (fun b => b.elim0) _ _ j).trans ?_
  refine Eq.trans ?_ (Ideal.hostReduceAdd_total Cert.ReferenceIdeal.Gen.reducesTo_S65536x32_S_d0_1 (fun b => b.elim0) _ _ j).symm
  rw [parts_sum, squares_sum m d q hI D hD]

end Cert.Proof

end
-- ==== Proof.Finite.lean ====
/-
  What the precondition says: every element of the input and of the table is a real number.
-/
module

public import proofs.«01_k».proof.Proof.Argmin
public import Idealize.ShloMosaic.Lib.ReduceAll
public import proofs.«01_k».proof.Pre_finite_inputs
@[expose] public section

noncomputable section

namespace Cert.Proof

open Idealize.ShloMosaic

/-- The side conditions that the precondition states. -/
theorem finiteFacts : Cert.Pre_finite_inputs.Facts :=
  ⟨by decide, by decide, by decide, by decide, by decide⟩

/-- A magnitude below infinity is that of a real. -/
theorem real_of_lt (x : EReal) (h : Ideal.cmp .olt (max x (-x)) (⊤ : EReal) = 1#1) : ∃ a : ℝ, x = (a : EReal) := by
  have h' : max x (-x) < (⊤ : EReal) := by
    by_contra hn
    simp [Ideal.cmp, hn] at h
  have h1 : x ≠ ⊤ := fun e => by simp [e] at h'
  have h2 : x ≠ ⊥ := fun e => by simp [e] at h'
  exact ⟨x.toReal, (EReal.coe_toReal h1 h2).symm⟩

/-- Under the precondition every element is real. -/
theorem finite_real [Cert.Pre_finite_inputs.Facts] (z : FVec Ideal Cert.Pre_finite_inputs.S64x1024x32 .f32)
    (W : FVec Ideal Cert.Pre_finite_inputs.S8192x32 .f32)
    (h : Cert.Pre_finite_inputs.fn (F := Ideal) z W = fun _ => 1#1) :
    (∀ i, ∃ a : ℝ, z i = (a : EReal)) ∧ ∀ i, ∃ a : ℝ, W i = (a : EReal) := by
  haveI : Subsingleton Cert.Pre_finite_inputs.S_.Idx := ⟨fun a b => funext fun i => i.elim0⟩
  have h0 := congrFun h ValueIdx.ix0
  unfold Cert.Pre_finite_inputs.fn at h0
  obtain ⟨hz, hw⟩ := IntOp.andi_eq_one.1 h0
  refine ⟨fun i => real_of_lt (z i) ?_, fun i => real_of_lt (W i) ?_⟩
  · rw [← ideal_inf]
    exact Host.reduce_andi_all _ _ _ _ _ hz i
  · rw [← ideal_inf]
    exact Host.reduce_andi_all _ _ _ _ _ hw i

end Cert.Proof

end
-- ==== Proof.Agree.lean ====
/-
  From finite arguments the idealization and the reference end with equal results.
-/
module

public import proofs.«01_k».proof.Proof.Sums
public import proofs.«01_k».proof.Proof.Finite
public import proofs.«01_k».proof.Proof.Frames
@[expose] public section

noncomputable section

namespace Cert.Proof

open Cert.KernelIdeal Cert.KernelIdeal.Gen
open Idealize.ShloMosaic Idealize.SL.Sem

section Values

variable (m : (ℓ : Loc nD τ sig) → Buf (Elt Ideal) ℓ) (d : Dev nD)

/-- From real arguments every index names a row, the reference's. -/
theorem idxs_row (hz : ∀ i, ∃ a : ℝ, zIn m d i = (a : EReal)) (hw : ∀ i, ∃ a : ℝ, tIn m d i = (a : EReal)) :
    idxs m d = rIdx (F := Ideal) (zIn m d) (tIn m d)
      ∧ ∃ q : Fin 65536 → Fin 8192, ∀ i, idxs m d (ValueIdx.ix1 i) = BitVec.ofNat 32 (q i).val := by
  have hf : ∀ i, ∃ a : ℝ, flat m d i = (a : EReal) := fun i => hz _
  choose a ha using hf
  choose b hb using hw
  refine ⟨idxs_eq m d (fun i k => a (ValueIdx.ix2 i k)) (fun j k => b (ValueIdx.ix2 j k)) (fun i k => ha _) fun j k => hb _, ?_⟩
  choose q hq using idxs_first m d (fun i k => a (ValueIdx.ix2 i k)) (fun j k => b (ValueIdx.ix2 j k)) (fun i k => ha _) fun j k => hb _
  exact ⟨q, fun i => (hq i).1⟩

/-- The loss, the output and the indices, from real arguments, are the reference's. -/
theorem values_eq (hz : ∀ i, ∃ a : ℝ, zIn m d i = (a : EReal)) (hw : ∀ i, ∃ a : ℝ, tIn m d i = (a : EReal)) :
    V5 m d (Proc.devRef .tc main_v16)
        = rLoss (F := Ideal) (rDif (F := Ideal) (zIn m d) (tIn m d) (rIdx (F := Ideal) (zIn m d) (tIn m d)))
      ∧ V5 m d (Proc.devRef .tc main_v17)
        = shapeCast S64x1024x32 (addf (rFlat (F := Ideal) (zIn m d))
            (rDif (F := Ideal) (zIn m d) (tIn m d) (rIdx (F := Ideal) (zIn m d) (tIn m d)))) shapeCasts_S65536x32_S64x1024x32
      ∧ V5 m d (Proc.devRef .tc main_v18) = shapeCast S64x1024 (rIdx (F := Ideal) (zIn m d) (tIn m d)) shapeCasts_S65536_S64x1024 := by
  obtain ⟨e, q, hq⟩ := idxs_row m d hz hw
  rw [← e]
  refine ⟨?_, ?_, V5_v18 m d⟩
  · rw [V5_v16, mean_eq m d q hq _ rfl]
    rfl
  · rw [V5_v17, outs_eq m d q hq]

end Values

/-- From finite arguments the idealization and the reference end with equal results. -/
theorem agree : Cert.algebraic_KernelIdeal_ReferenceIdeal_pre_finite_inputs (hKernelIdeal := Cert.KernelIdeal.Gen.facts)
    (hReferenceIdeal := Cert.ReferenceIdeal.Gen.facts) (hPre_finite_inputs := finiteFacts) := by
  intro m g m' g' hpre hm
  letI := finiteFacts
  have hv := fun c => values_eq m c (finite_real _ _ (hpre c)).1 (finite_real _ _ (hpre c)).2
  refine ⟨fun c => V5 m c (Proc.devRef .tc main_v16), fun c => V5 m c (Proc.devRef .tc main_v17), fun c => V5 m c (Proc.devRef .tc main_v18), ?_, ?_⟩
  · refine Idealize.ShloMosaic.θ_run_mono (run_all m g) fun r hr c => ⟨?_, ?_, ?_, ?_, ?_⟩
    · exact hr.1 c _ (Pipeline.devRef_mem_ucRefs (b := main_v16) rfl)
    · exact hr.1 c _ (Pipeline.devRef_mem_ucRefs (b := main_v17) rfl)
    · exact hr.1 c _ (Pipeline.devRef_mem_ucRefs (b := main_v18) rfl)
    · exact (hr.1 c _ (Pipeline.devRef_mem_ucRefs (b := main_arg0) rfl)).trans (V5_arg0 m c)
    · exact (hr.1 c _ (Pipeline.devRef_mem_ucRefs (b := main_arg1) rfl)).trans (V5_arg1 m c)
  · refine Idealize.ShloMosaic.θ_run_mono (run_reference m' g') fun r hr c => ?_
    obtain ⟨h0, h1, h2, h3, h4⟩ := hr c
    obtain ⟨e0, e1, e2⟩ := hv c
    rw [(hm c).1, (hm c).2] at h0 h1 h2
    exact ⟨h0.trans e0.symm, h1.trans e1.symm, h2.trans e2.symm, h3, h4⟩

end Cert.Proof

end
-- ==== Proof.lean ====
/-
  The proof of the certificate's claim. The programs' runs and values are proved in Proof/: the program of the SparseCore
  (TileProg … Launch), the TensorCore call (Region), @main (Main), what the buffers hold (Indices, Words, Values),
  the reference's run (Ref), and that the two agree over the reals (Argmin, Scores, Same, Take, Sums, Finite, Agree).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Frames
public import proofs.«01_k».proof.Proof.Ref
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The certificate's claim: each program's run leaves its arguments alone and its semaphores at zero, and from finite
    arguments the idealization and the reference end with equal results. -/
theorem claim : Cert.Claim := ⟨Cert.Kernel.Gen.facts, Cert.KernelIdeal.Gen.facts, Cert.ReferenceIdeal.Gen.facts, finiteFacts,
  fun m g _ => frame_printed m g, fun m g _ => frame_ideal m g, fun m g _ => frame_ideal m g,
  fun m g _ => frame_reference m g, fun m g _ => frame_reference m g, trivial, agree⟩

end Cert.Proof

end
